-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_causal [hPre_finite_and_causal : Cert.Pre_finite_and_causal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_and_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_and_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_and_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_and_causal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_causal [hPre_finite_and_causal : Cert.Pre_finite_and_causal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_and_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_and_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_and_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_and_causal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_and_causal [hKernelIdeal : Cert.KernelIdeal.Facts] [hPre_finite_and_causal : Cert.Pre_finite_and_causal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_causal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_and_causal [hReferenceIdeal : Cert.ReferenceIdeal.Facts] [hPre_finite_and_causal : Cert.Pre_finite_and_causal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_causal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_sqrt_d" .f32 0x3DB504F3#32 (((Real.sqrt 128)⁻¹ : ℝ) : EReal)

def algebraic_KernelIdeal_ReferenceIdeal_pre_finite_and_causal [hKernelIdeal : Cert.KernelIdeal.Facts] [hReferenceIdeal : Cert.ReferenceIdeal.Facts] [hPre_finite_and_causal : Cert.Pre_finite_and_causal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_causal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_and_causal : Cert.Pre_finite_and_causal.Facts),
    quiescent_Kernel (hKernel := hKernel)
    ∧ quiescent_KernelIdeal (hKernelIdeal := hKernelIdeal)
    ∧ quiescent_KernelIdeal_pre_finite_and_causal (hKernelIdeal := hKernelIdeal) (hPre_finite_and_causal := hPre_finite_and_causal)
    ∧ quiescent_ReferenceIdeal (hReferenceIdeal := hReferenceIdeal)
    ∧ quiescent_ReferenceIdeal_pre_finite_and_causal (hReferenceIdeal := hReferenceIdeal) (hPre_finite_and_causal := hPre_finite_and_causal)
    ∧ preserves_Kernel_KernelIdeal
    ∧ algebraic_KernelIdeal_ReferenceIdeal_pre_finite_and_causal (hKernelIdeal := hKernelIdeal) (hReferenceIdeal := hReferenceIdeal) (hPre_finite_and_causal := hPre_finite_and_causal)
-- ==== Pre_finite_and_causal.lean ====
abbrev S4096x2048 : Shape := ⟨2, ![4096, 2048]⟩
abbrev S4096x128 : Shape := ⟨2, ![4096, 128]⟩
abbrev S32x128 : Shape := ⟨2, ![32, 128]⟩
abbrev S2x1x2048x32 : Shape := ⟨4, ![2, 1, 2048, 32]⟩
abbrev S3 : Shape := ⟨1, ![3]⟩
abbrev S2048x2048 : Shape := ⟨2, ![2048, 2048]⟩
abbrev S2048x1024 : Shape := ⟨2, ![2048, 1024]⟩
abbrev S128 : Shape := ⟨1, ![128]⟩
abbrev S128x128 : Shape := ⟨2, ![128, 128]⟩
abbrev S256x128 : Shape := ⟨2, ![256, 128]⟩
abbrev S32 : Shape := ⟨1, ![32]⟩
abbrev S1x32 : Shape := ⟨2, ![1, 32]⟩
abbrev S_ : Shape := ⟨0, ![]⟩
abbrev S2048 : Shape := ⟨1, ![2048]⟩
abbrev S2048x1 : Shape := ⟨2, ![2048, 1]⟩
abbrev S2048x32 : Shape := ⟨2, ![2048, 32]⟩
abbrev S1x1x2048x32 : Shape := ⟨4, ![1, 1, 2048, 32]⟩

class Facts : Prop where
  bcast_S32_S1x32_1 : S32.BroadcastsInDim S1x32 (![1] : Fin 1 → Fin S1x32.rank)
  bcast_S_S1x32 : S_.BroadcastsInDim S1x32 (![] : Fin 0 → Fin S1x32.rank)
  bcast_S2048_S2048x1_0 : S2048.BroadcastsInDim S2048x1 (![0] : Fin 1 → Fin S2048x1.rank)
  bcast_S1x32_S2048x32_0_1 : S1x32.BroadcastsInDim S2048x32 (![0, 1] : Fin 2 → Fin S2048x32.rank)
  bcast_S2048x1_S2048x32_0_1 : S2048x1.BroadcastsInDim S2048x32 (![0, 1] : Fin 2 → Fin S2048x32.rank)
  bcast_S2048x32_S1x1x2048x32_2_3 : S2048x32.BroadcastsInDim S1x1x2048x32 (![2, 3] : Fin 2 → Fin S1x1x2048x32.rank)
  bcast_S1x1x2048x32_S2x1x2048x32_0_1_2_3 : S1x1x2048x32.BroadcastsInDim S2x1x2048x32 (![0, 1, 2, 3] : Fin 4 → Fin S2x1x2048x32.rank)
  bcast_S_S4096x128 : S_.BroadcastsInDim S4096x128 (![] : Fin 0 → Fin S4096x128.rank)
  bcast_S_S128 : S_.BroadcastsInDim S128 (![] : Fin 0 → Fin S128.rank)

variable [Facts]

def fn_part1 {F : FTy → Type} [FloatOps F] (main_arg7 : IVec S2x1x2048x32 1) (main_arg14 : FVec F S128 .f32) (main_v10 : IVec S2x1x2048x32 1) (main_v13 : IVec S4096x128 1) (main_v16 : IVec S4096x128 1) (main_v19 : IVec S128 1) : IVec S4096x128 1 × IVec S4096x128 1 × IVec S128 1 × IVec S128 1 × IVec S2x1x2048x32 1 :=
  let main_v20 : FVec F S128 .f32 := Host.absf main_arg14
  let main_cst_2 : FVec F S_ .f32 := constant S_ .f32 0x7F800000#32
  let main_v21 : FVec F S128 .f32 := broadcastInDim S128 ![] bcast_S_S128 main_cst_2
  let main_v22 : IVec S128 1 := cmpf .olt main_v20 main_v21
  let main_v23 : IVec S2x1x2048x32 1 := cmpi .eq main_arg7 main_v10
  (main_v13, main_v16, main_v19, main_v22, main_v23)

def fn {F : FTy → Type} [FloatOps F] (main_arg0 : FVec F S4096x2048 .f32) (main_arg1 : FVec F S4096x128 .f32) (main_arg2 : FVec F S4096x128 .f32) (main_arg3 : FVec F S4096x128 .f32) (main_arg4 : FVec F S4096x128 .f32) (main_arg5 : FVec F S32x128 .f32) (main_arg6 : FVec F S32x128 .f32) (main_arg7 : IVec S2x1x2048x32 1) (main_arg8 : IVec S3 32) (main_arg9 : FVec F S2048x2048 .f32) (main_arg10 : FVec F S2048x1024 .f32) (main_arg11 : FVec F S2048x1024 .f32) (main_arg12 : FVec F S2048x2048 .f32) (main_arg13 : FVec F S128 .f32) (main_arg14 : FVec F S128 .f32) (main_arg15 : FVec F S128x128 .f32) (main_arg16 : FVec F S256x128 .f32) : IVec S4096x128 1 × IVec S4096x128 1 × IVec S128 1 × IVec S128 1 × IVec S2x1x2048x32 1 :=
  let main_v0 : IVec S32 32 := iotaInDim S32 32 0
  let main_v1 : IVec S1x32 32 := broadcastInDim S1x32 ![1] bcast_S32_S1x32_1 main_v0
  let main_c : IVec S_ 32 := constantI S_ 32 64#32
  let main_v2 : IVec S1x32 32 := broadcastInDim S1x32 ![] bcast_S_S1x32 main_c
  let main_v3 : IVec S1x32 32 := muli main_v1 main_v2
  let main_v4 : IVec S2048 32 := iotaInDim S2048 32 0
  let main_v5 : IVec S2048x1 32 := broadcastInDim S2048x1 ![0] bcast_S2048_S2048x1_0 main_v4
  let main_v6 : IVec S2048x32 32 := broadcastInDim S2048x32 ![0, 1] bcast_S1x32_S2048x32_0_1 main_v3
  let main_v7 : IVec S2048x32 32 := broadcastInDim S2048x32 ![0, 1] bcast_S2048x1_S2048x32_0_1 main_v5
  let main_v8 : IVec S2048x32 1 := cmpi .sle main_v6 main_v7
  let main_v9 : IVec S1x1x2048x32 1 := broadcastInDim S1x1x2048x32 ![2, 3] bcast_S2048x32_S1x1x2048x32_2_3 main_v8
  let main_v10 : IVec S2x1x2048x32 1 := broadcastInDim S2x1x2048x32 ![0, 1, 2, 3] bcast_S1x1x2048x32_S2x1x2048x32_0_1_2_3 main_v9
  let main_v11 : FVec F S4096x128 .f32 := Host.absf main_arg1
  let main_cst : FVec F S_ .f32 := constant S_ .f32 0x7F800000#32
  let main_v12 : FVec F S4096x128 .f32 := broadcastInDim S4096x128 ![] bcast_S_S4096x128 main_cst
  let main_v13 : IVec S4096x128 1 := cmpf .olt main_v11 main_v12
  let main_v14 : FVec F S4096x128 .f32 := Host.absf main_arg2
  let main_cst_0 : FVec F S_ .f32 := constant S_ .f32 0x7F800000#32
  let main_v15 : FVec F S4096x128 .f32 := broadcastInDim S4096x128 ![] bcast_S_S4096x128 main_cst_0
  let main_v16 : IVec S4096x128 1 := cmpf .olt main_v14 main_v15
  let main_v17 : FVec F S128 .f32 := Host.absf main_arg13
  let main_cst_1 : FVec F S_ .f32 := constant S_ .f32 0x7F800000#32
  let main_v18 : FVec F S128 .f32 := broadcastInDim S128 ![] bcast_S_S128 main_cst_1
  let main_v19 : IVec S128 1 := cmpf .olt main_v17 main_v18
  fn_part1 (F := F) main_arg7 main_arg14 main_v10 main_v13 main_v16 main_v19
-- ==== Kernel.lean ====
abbrev S4096x2048 : Shape := ⟨2, ![4096, 2048]⟩
abbrev S4096x128 : Shape := ⟨2, ![4096, 128]⟩
abbrev S32x128 : Shape := ⟨2, ![32, 128]⟩
abbrev S2x1x2048x32 : Shape := ⟨4, ![2, 1, 2048, 32]⟩
abbrev S3 : Shape := ⟨1, ![3]⟩
abbrev S2048x2048 : Shape := ⟨2, ![2048, 2048]⟩
abbrev S2048x1024 : Shape := ⟨2, ![2048, 1024]⟩
abbrev S128 : Shape := ⟨1, ![128]⟩
abbrev S128x128 : Shape := ⟨2, ![128, 128]⟩
abbrev S256x128 : Shape := ⟨2, ![256, 128]⟩
abbrev S32x1x128 : Shape := ⟨3, ![32, 1, 128]⟩
abbrev S1x128 : Shape := ⟨2, ![1, 128]⟩
abbrev S4096x1024 : Shape := ⟨2, ![4096, 1024]⟩
abbrev S64x1x1024 : Shape := ⟨3, ![64, 1, 1024]⟩
abbrev S512x2048 : Shape := ⟨2, ![512, 2048]⟩
abbrev S512x128 : Shape := ⟨2, ![512, 128]⟩
abbrev S8x1x128 : Shape := ⟨3, ![8, 1, 128]⟩
abbrev S512x1024 : Shape := ⟨2, ![512, 1024]⟩
abbrev S8x1x1024 : Shape := ⟨3, ![8, 1, 1024]⟩
abbrev S512x16x128 : Shape := ⟨3, ![512, 16, 128]⟩
abbrev S512x16 : Shape := ⟨2, ![512, 16]⟩
abbrev S512x16x1 : Shape := ⟨3, ![512, 16, 1]⟩
abbrev S1x1x128 : Shape := ⟨3, ![1, 1, 128]⟩
abbrev S512x1x128 : Shape := ⟨3, ![512, 1, 128]⟩
abbrev S512x16x64 : Shape := ⟨3, ![512, 16, 64]⟩
abbrev S512x8x2x128 : Shape := ⟨4, ![512, 8, 2, 128]⟩
abbrev S512x8x128 : Shape := ⟨3, ![512, 8, 128]⟩
abbrev S512x8x64 : Shape := ⟨3, ![512, 8, 64]⟩
abbrev S512x8 : Shape := ⟨2, ![512, 8]⟩
abbrev S512x8x1 : Shape := ⟨3, ![512, 8, 1]⟩
abbrev S8x64x8x128 : Shape := ⟨4, ![8, 64, 8, 128]⟩
abbrev S8x8x128 : Shape := ⟨3, ![8, 8, 128]⟩
abbrev S8x128 : Shape := ⟨2, ![8, 128]⟩
abbrev S8x8x64 : Shape := ⟨3, ![8, 8, 64]⟩
abbrev S8x8x256 : Shape := ⟨3, ![8, 8, 256]⟩
abbrev S64x256 : Shape := ⟨2, ![64, 256]⟩
abbrev S64x128 : Shape := ⟨2, ![64, 128]⟩
abbrev S8x1024 : Shape := ⟨2, ![8, 1024]⟩
abbrev S2x2048x8x256 : Shape := ⟨4, ![2, 2048, 8, 256]⟩
abbrev S2x8x2048x256 : Shape := ⟨4, ![2, 8, 2048, 256]⟩
abbrev S2x2048x8x128 : Shape := ⟨4, ![2, 2048, 8, 128]⟩
abbrev S2x8x2048x128 : Shape := ⟨4, ![2, 8, 2048, 128]⟩
abbrev S2x32x8x128 : Shape := ⟨4, ![2, 32, 8, 128]⟩
abbrev S2x8x32x128 : Shape := ⟨4, ![2, 8, 32, 128]⟩
abbrev S64x1x128 : Shape := ⟨3, ![64, 1, 128]⟩
abbrev S1x1x512x256 : Shape := ⟨4, ![1, 1, 512, 256]⟩
abbrev S1x1x2048x128 : Shape := ⟨4, ![1, 1, 2048, 128]⟩
abbrev S1x1x512x128 : Shape := ⟨4, ![1, 1, 512, 128]⟩
abbrev S1x1x32x128 : Shape := ⟨4, ![1, 1, 32, 128]⟩
abbrev S512x256 : Shape := ⟨2, ![512, 256]⟩
abbrev S1024x128 : Shape := ⟨2, ![1024, 128]⟩
abbrev S1024x1 : Shape := ⟨2, ![1024, 1]⟩
abbrev S1024x32 : Shape := ⟨2, ![1024, 32]⟩
abbrev S1024x512 : Shape := ⟨2, ![1024, 512]⟩
abbrev S1024 : Shape := ⟨1, ![1024]⟩
abbrev S1024x8 : Shape := ⟨2, ![1024, 8]⟩
abbrev S512x32 : Shape := ⟨2, ![512, 32]⟩
abbrev S512 : Shape := ⟨1, ![512]⟩
abbrev S512x1 : Shape := ⟨2, ![512, 1]⟩
abbrev S1x512x32 : Shape := ⟨3, ![1, 512, 32]⟩
abbrev S1 : Shape := ⟨1, ![1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 54
  | .vmem => 50
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S32x128, .f32⟩
  | .hbm, ⟨6, _⟩ => ⟨S32x128, .f32⟩
  | .hbm, ⟨7, _⟩ => ⟨S2x1x2048x32, .i1⟩
  | .hbm, ⟨8, _⟩ => ⟨S3, .i32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x2048, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S256x128, .f32⟩
  | .hbm, ⟨17, _⟩ => ⟨S4096x2048, .bf16⟩
  | .hbm, ⟨18, _⟩ => ⟨S32x1x128, .f32⟩
  | .hbm, ⟨19, _⟩ => ⟨S32x1x128, .f32⟩
  | .hbm, ⟨20, _⟩ => ⟨S2048x2048, .bf16⟩
  | .hbm, ⟨21, _⟩ => ⟨S2048x1024, .bf16⟩
  | .hbm, ⟨22, _⟩ => ⟨S2048x1024, .bf16⟩
  | .hbm, ⟨23, _⟩ => ⟨S1x128, .f32⟩
  | .hbm, ⟨24, _⟩ => ⟨S1x128, .f32⟩
  | .hbm, ⟨25, _⟩ => ⟨S128x128, .bf16⟩
  | .hbm, ⟨26, _⟩ => ⟨S256x128, .bf16⟩
  | .hbm, ⟨27, _⟩ => ⟨S4096x2048, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | .hbm, ⟨31, _⟩ => ⟨S64x1x1024, .bf16⟩
  | .hbm, ⟨32, _⟩ => ⟨S2x2048x8x256, .bf16⟩
  | .hbm, ⟨33, _⟩ => ⟨S2x8x2048x256, .bf16⟩
  | .hbm, ⟨34, _⟩ => ⟨S2x2048x8x128, .bf16⟩
  | .hbm, ⟨35, _⟩ => ⟨S2x8x2048x128, .bf16⟩
  | .hbm, ⟨36, _⟩ => ⟨S2x2048x8x128, .bf16⟩
  | .hbm, ⟨37, _⟩ => ⟨S2x8x2048x128, .bf16⟩
  | .hbm, ⟨38, _⟩ => ⟨S2x2048x8x128, .bf16⟩
  | .hbm, ⟨39, _⟩ => ⟨S2x8x2048x128, .bf16⟩
  | .hbm, ⟨40, _⟩ => ⟨S2x32x8x128, .bf16⟩
  | .hbm, ⟨41, _⟩ => ⟨S2x8x32x128, .bf16⟩
  | .hbm, ⟨42, _⟩ => ⟨S2x8x2048x256, .bf16⟩
  | .hbm, ⟨43, _⟩ => ⟨S64x1x128, .f32⟩
  | .hbm, ⟨44, _⟩ => ⟨S2x2048x8x256, .bf16⟩
  | .hbm, ⟨45, _⟩ => ⟨S4096x2048, .bf16⟩
  | .hbm, ⟨46, _⟩ => ⟨S2048x2048, .bf16⟩
  | .hbm, ⟨47, _⟩ => ⟨S4096x2048, .f32⟩
  | .hbm, ⟨48, _⟩ => ⟨S64x1x1, .f32⟩
  | .hbm, ⟨49, _⟩ => ⟨S64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x1x128, .f32⟩
  | .local _ .vmem, ⟨11, _⟩ => ⟨S8x1x128, .f32⟩
  | .local _ .vmem, ⟨12, _⟩ => ⟨S8x1x128, .f32⟩
  | .local _ .vmem, ⟨13, _⟩ => ⟨S8x1x128, .f32⟩
  | .local _ .vmem, ⟨14, _⟩ => ⟨S2048x2048, .bf16⟩
  | .local _ .vmem, ⟨15, _⟩ => ⟨S2048x1024, .bf16⟩
  | .local _ .vmem, ⟨16, _⟩ => ⟨S2048x1024, .bf16⟩
  | .local _ .vmem, ⟨17, _⟩ => ⟨S1x128, .f32⟩
  | .local _ .vmem, ⟨18, _⟩ => ⟨S1x128, .f32⟩
  | .local _ .vmem, ⟨19, _⟩ => ⟨S128x128, .bf16⟩
  | .local _ .vmem, ⟨20, _⟩ => ⟨S256x128, .bf16⟩
  | .local _ .vmem, ⟨21, _⟩ => ⟨S512x2048, .bf16⟩
  | .local _ .vmem, ⟨22, _⟩ => ⟨S512x2048, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S8x1x1024, .bf16⟩
  | .local _ .vmem, ⟨30, _⟩ => ⟨S8x1x1024, .bf16⟩
  | .local _ .vmem, ⟨31, _⟩ => ⟨S1x1x512x256, .bf16⟩
  | .local _ .vmem, ⟨32, _⟩ => ⟨S1x1x512x256, .bf16⟩
  | .local _ .vmem, ⟨33, _⟩ => ⟨S1x1x2048x128, .bf16⟩
  | .local _ .vmem, ⟨34, _⟩ => ⟨S1x1x2048x128, .bf16⟩
  | .local _ .vmem, ⟨35, _⟩ => ⟨S1x1x2048x128, .bf16⟩
  | .local _ .vmem, ⟨36, _⟩ => ⟨S1x1x2048x128, .bf16⟩
  | .local _ .vmem, ⟨37, _⟩ => ⟨S1x1x512x128, .bf16⟩
  | .local _ .vmem, ⟨38, _⟩ => ⟨S1x1x512x128, .bf16⟩
  | .local _ .vmem, ⟨39, _⟩ => ⟨S1x1x32x128, .bf16⟩
  | .local _ .vmem, ⟨40, _⟩ => ⟨S1x1x32x128, .bf16⟩
  | .local _ .vmem, ⟨41, _⟩ => ⟨S1x1x512x256, .bf16⟩
  | .local _ .vmem, ⟨42, _⟩ => ⟨S1x1x512x256, .bf16⟩
  | .local _ .vmem, ⟨43, _⟩ => ⟨S1x1x128, .f32⟩
  | .local _ .vmem, ⟨44, _⟩ => ⟨S1x1x128, .f32⟩
  | .local _ .vmem, ⟨45, _⟩ => ⟨S512x2048, .bf16⟩
  | .local _ .vmem, ⟨46, _⟩ => ⟨S512x2048, .bf16⟩
  | .local _ .vmem, ⟨47, _⟩ => ⟨S2048x2048, .bf16⟩
  | .local _ .vmem, ⟨48, _⟩ => ⟨S512x2048, .f32⟩
  | .local _ .vmem, ⟨49, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev main_v10_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc1_stg3_0 : Ref sig .tc := ⟨.vmem, 37, rfl⟩
abbrev cc1_stg3_1 : Ref sig .tc := ⟨.vmem, 38, rfl⟩
abbrev cc1_stg4_0 : Ref sig .tc := ⟨.vmem, 39, rfl⟩
abbrev cc1_stg4_1 : Ref sig .tc := ⟨.vmem, 40, rfl⟩
abbrev cc1_stg5_0 : Ref sig .tc := ⟨.vmem, 41, rfl⟩
abbrev cc1_stg5_1 : Ref sig .tc := ⟨.vmem, 42, rfl⟩
abbrev cc1_stg6_0 : Ref sig .tc := ⟨.vmem, 43, rfl⟩
abbrev cc1_stg6_1 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg2_0 : Ref sig .tc := ⟨.vmem, 48, rfl⟩
abbrev cc2_stg2_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem3_1 : DmaSem sig := 38
abbrev cc1_sem4_0 : DmaSem sig := 39
abbrev cc1_sem4_1 : DmaSem sig := 40
abbrev cc1_sem5_0 : DmaSem sig := 41
abbrev cc1_sem5_1 : DmaSem sig := 42
abbrev cc1_sem6_0 : DmaSem sig := 43
abbrev cc1_sem6_1 : DmaSem sig := 44
abbrev cc2_sem0_0 : DmaSem sig := 45
abbrev cc2_sem0_1 : DmaSem sig := 46
abbrev cc2_sem1_0 : DmaSem sig := 47
abbrev cc2_sem2_0 : DmaSem sig := 48
abbrev cc2_sem2_1 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x1x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![16, 4], ![false, false]⟩

@[reducible] def k1_t1_loop (i : grid1.Coords) : Scf.Loop 32 :=
  let c0_i32_10 : BitVec 32 := 0#32
  let arg1 : BitVec 32 := BitVec.ofNat 32 (i 1).val
  let v39 : BitVec 32 := Scalar.subi arg1 c0_i32_10
  let c1_i32_11 : BitVec 32 := 1#32
  let v41 : BitVec 32 := Scalar.divsi v39 c1_i32_11
  let v42 : BitVec 32 := Scalar.muli v41 c1_i32_11
  let v43 : BitVec 32 := Scalar.addi c0_i32_10 v42
  let c1_i32_12 : BitVec 32 := 1#32
  ⟨c0_i32_10, v43, c1_i32_12⟩
def k1_off1 (i : grid1.Coords) (k1_t1 : Fin (k1_t1_loop i).trips) : Fin 4 → Nat :=
  let c0_82 : Index := 0#32
  let c0_83 : Index := 0#32
  let c0_i32_10 : BitVec 32 := 0#32
  let c1_i32_12 : BitVec 32 := 1#32
  let arg9 : BitVec 32 := Scf.iv c0_i32_10 c1_i32_12 k1_t1
  let c512_i32_81 : BitVec 32 := 512#32
  let v265 : BitVec 32 := Scalar.muli arg9 c512_i32_81
  let v266 : Index := Scalar.indexCast v265
  let c0_84 : Index := 0#32
  ![0, 0, v266.toNat, 0]
@[reducible] def k1_t2_loop (i : grid1.Coords) : Scf.Loop 32 :=
  let c0_i32_10 : BitVec 32 := 0#32
  let arg1 : BitVec 32 := BitVec.ofNat 32 (i 1).val
  let v39 : BitVec 32 := Scalar.subi arg1 c0_i32_10
  let c1_i32_11 : BitVec 32 := 1#32
  let v41 : BitVec 32 := Scalar.divsi v39 c1_i32_11
  let v42 : BitVec 32 := Scalar.muli v41 c1_i32_11
  let v43 : BitVec 32 := Scalar.addi c0_i32_10 v42
  let v40 : BitVec 32 := Scalar.addi c0_i32_10 v39
  let c1_i32_13 : BitVec 32 := 1#32
  ⟨v43, v40, c1_i32_13⟩
def k1_off2 (i : grid1.Coords) (k1_t2 : Fin (k1_t2_loop i).trips) : Fin 4 → Nat :=
  let c0_82 : Index := 0#32
  let c0_83 : Index := 0#32
  let c0_i32_10 : BitVec 32 := 0#32
  let arg1 : BitVec 32 := BitVec.ofNat 32 (i 1).val
  let v39 : BitVec 32 := Scalar.subi arg1 c0_i32_10
  let c1_i32_11 : BitVec 32 := 1#32
  let v41 : BitVec 32 := Scalar.divsi v39 c1_i32_11
  let v42 : BitVec 32 := Scalar.muli v41 c1_i32_11
  let v43 : BitVec 32 := Scalar.addi c0_i32_10 v42
  let c1_i32_13 : BitVec 32 := 1#32
  let arg9 : BitVec 32 := Scf.iv v43 c1_i32_13 k1_t2
  let c512_i32_81 : BitVec 32 := 512#32
  let v265 : BitVec 32 := Scalar.muli arg9 c512_i32_81
  let v266 : Index := Scalar.indexCast v265
  let c0_84 : Index := 0#32
  ![0, 0, v266.toNat, 0]
def k1_off3 (i : grid1.Coords) : Fin 4 → Nat :=
  let c0_14 : Index := 0#32
  let c0_15 : Index := 0#32
  let arg1 : BitVec 32 := BitVec.ofNat 32 (i 1).val
  let c512_i32 : BitVec 32 := 512#32
  let v46 : BitVec 32 := Scalar.muli arg1 c512_i32
  let v47 : Index := Scalar.indexCast v46
  let c0_16 : Index := 0#32
  ![0, 0, v47.toNat, 0]
def cc1_transform_0 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_1 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_4 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_5 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x32x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x512x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "inv_sqrt_d" => some (((Real.sqrt 128)⁻¹ : ℝ) : EReal)
  | "mask" => some ⊥
  | _ => none
-- ==== ReferenceIdeal.lean ====
abbrev S4096x2048 : Shape := ⟨2, ![4096, 2048]⟩
abbrev S4096x128 : Shape := ⟨2, ![4096, 128]⟩
abbrev S32x128 : Shape := ⟨2, ![32, 128]⟩
abbrev S2x1x2048x32 : Shape := ⟨4, ![2, 1, 2048, 32]⟩
abbrev S3 : Shape := ⟨1, ![3]⟩
abbrev S2048x2048 : Shape := ⟨2, ![2048, 2048]⟩
abbrev S2048x1024 : Shape := ⟨2, ![2048, 1024]⟩
abbrev S128 : Shape := ⟨1, ![128]⟩
abbrev S128x128 : Shape := ⟨2, ![128, 128]⟩
abbrev S256x128 : Shape := ⟨2, ![256, 128]⟩
abbrev S4096x16x128 : Shape := ⟨3, ![4096, 16, 128]⟩
abbrev S4096x1024 : Shape := ⟨2, ![4096, 1024]⟩
abbrev S4096x8x128 : Shape := ⟨3, ![4096, 8, 128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S4096x8 : Shape := ⟨2, ![4096, 8]⟩
abbrev S4096x8x1 : Shape := ⟨3, ![4096, 8, 1]⟩
abbrev S4096x8x2x128 : Shape := ⟨4, ![4096, 8, 2, 128]⟩
abbrev S4096x1x128 : Shape := ⟨3, ![4096, 1, 128]⟩
abbrev S4096x8x64 : Shape := ⟨3, ![4096, 8, 64]⟩
abbrev S2x2048x8x128 : Shape := ⟨4, ![2, 2048, 8, 128]⟩
abbrev S2x32x64x8x128 : Shape := ⟨5, ![2, 32, 64, 8, 128]⟩
abbrev S2x32x8x128 : Shape := ⟨4, ![2, 32, 8, 128]⟩
abbrev S1x32x1x128 : Shape := ⟨4, ![1, 32, 1, 128]⟩
abbrev S2x32x8x64 : Shape := ⟨4, ![2, 32, 8, 64]⟩
abbrev S2x32x8x256 : Shape := ⟨4, ![2, 32, 8, 256]⟩
abbrev S2x8x2048x32 : Shape := ⟨4, ![2, 8, 2048, 32]⟩
abbrev S4096x16x64 : Shape := ⟨3, ![4096, 16, 64]⟩
abbrev S2x2048x16x128 : Shape := ⟨4, ![2, 2048, 16, 128]⟩
abbrev S2x16x2048x128 : Shape := ⟨4, ![2, 16, 2048, 128]⟩
abbrev S2x2048x8x2x128 : Shape := ⟨5, ![2, 2048, 8, 2, 128]⟩
abbrev S2x16x2048x2048 : Shape := ⟨4, ![2, 16, 2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x2048x32x64 : Shape := ⟨5, ![2, 16, 2048, 32, 64]⟩
abbrev S2x16x2048x32 : Shape := ⟨4, ![2, 16, 2048, 32]⟩
abbrev S2x8x2x2048x32 : Shape := ⟨5, ![2, 8, 2, 2048, 32]⟩
abbrev S2x8x2048 : Shape := ⟨3, ![2, 8, 2048]⟩
abbrev S2x8x2048x1 : Shape := ⟨4, ![2, 8, 2048, 1]⟩
abbrev S1x8x2048x32 : Shape := ⟨4, ![1, 8, 2048, 32]⟩
abbrev S8x2048x32 : Shape := ⟨3, ![8, 2048, 32]⟩
abbrev S8x2048 : Shape := ⟨2, ![8, 2048]⟩
abbrev S8x2048x1 : Shape := ⟨3, ![8, 2048, 1]⟩

abbrev nBuf : Space → Nat
  | .hbm => 292
  | .vmem => 0
  | .smem => 0
  | _ => 0

abbrev hbmTy0_0 (i : Nat) : BufTy := match i % 128 with
  | 0 => ⟨S4096x2048, .f32⟩
  | 1 => ⟨S4096x128, .f32⟩
  | 2 => ⟨S4096x128, .f32⟩
  | 3 => ⟨S4096x128, .f32⟩
  | 4 => ⟨S4096x128, .f32⟩
  | 5 => ⟨S32x128, .f32⟩
  | 6 => ⟨S32x128, .f32⟩
  | 7 => ⟨S2x1x2048x32, .i1⟩
  | 8 => ⟨S3, .i32⟩
  | 9 => ⟨S2048x2048, .f32⟩
  | 10 => ⟨S2048x1024, .f32⟩
  | 11 => ⟨S2048x1024, .f32⟩
  | 12 => ⟨S2048x2048, .f32⟩
  | 13 => ⟨S128, .f32⟩
  | 14 => ⟨S128, .f32⟩
  | 15 => ⟨S128x128, .f32⟩
  | 16 => ⟨S256x128, .f32⟩
  | 17 => ⟨S4096x2048, .f32⟩
  | 18 => ⟨S4096x16x128, .f32⟩
  | 19 => ⟨S4096x1024, .f32⟩
  | 20 => ⟨S4096x8x128, .f32⟩
  | 21 => ⟨S4096x1024, .f32⟩
  | 22 => ⟨S4096x8x128, .f32⟩
  | 23 => ⟨S4096x16x128, .f32⟩
  | 24 => ⟨S_, .f32⟩
  | 25 => ⟨S4096x16, .f32⟩
  | 26 => ⟨S4096x16x1, .f32⟩
  | 27 => ⟨S_, .f32⟩
  | 28 => ⟨S4096x16x1, .f32⟩
  | 29 => ⟨S4096x16x1, .f32⟩
  | 30 => ⟨S_, .f32⟩
  | 31 => ⟨S4096x16x1, .f32⟩
  | 32 => ⟨S4096x16x1, .f32⟩
  | 33 => ⟨S4096x16x1, .f32⟩
  | 34 => ⟨S4096x16x128, .f32⟩
  | 35 => ⟨S4096x16x128, .f32⟩
  | 36 => ⟨S1x1x128, .f32⟩
  | 37 => ⟨S4096x16x128, .f32⟩
  | 38 => ⟨S4096x16x128, .f32⟩
  | 39 => ⟨S4096x8x128, .f32⟩
  | 40 => ⟨S_, .f32⟩
  | 41 => ⟨S4096x8, .f32⟩
  | 42 => ⟨S4096x8x1, .f32⟩
  | 43 => ⟨S_, .f32⟩
  | 44 => ⟨S4096x8x1, .f32⟩
  | 45 => ⟨S4096x8x1, .f32⟩
  | 46 => ⟨S_, .f32⟩
  | 47 => ⟨S4096x8x1, .f32⟩
  | 48 => ⟨S4096x8x1, .f32⟩
  | 49 => ⟨S4096x8x1, .f32⟩
  | 50 => ⟨S4096x8x128, .f32⟩
  | 51 => ⟨S4096x8x128, .f32⟩
  | 52 => ⟨S1x1x128, .f32⟩
  | 53 => ⟨S4096x8x128, .f32⟩
  | 54 => ⟨S4096x8x128, .f32⟩
  | 55 => ⟨S4096x8x2x128, .f32⟩
  | 56 => ⟨S_, .f32⟩
  | 57 => ⟨S4096x8x128, .f32⟩
  | 58 => ⟨S_, .f32⟩
  | 59 => ⟨S4096x8x128, .f32⟩
  | 60 => ⟨S4096x8x128, .f32⟩
  | 61 => ⟨S4096x1x128, .f32⟩
  | 62 => ⟨S4096x8x128, .f32⟩
  | 63 => ⟨S4096x8x128, .f32⟩
  | 64 => ⟨S4096x8x64, .f32⟩
  | 65 => ⟨S4096x8x64, .f32⟩
  | 66 => ⟨S4096x8x64, .f32⟩
  | 67 => ⟨S4096x8x128, .f32⟩
  | 68 => ⟨S4096x1x128, .f32⟩
  | 69 => ⟨S4096x8x128, .f32⟩
  | 70 => ⟨S4096x8x128, .f32⟩
  | 71 => ⟨S4096x8x128, .f32⟩
  | 72 => ⟨S4096x8x128, .f32⟩
  | 73 => ⟨S2x2048x8x128, .f32⟩
  | 74 => ⟨S2x32x64x8x128, .f32⟩
  | 75 => ⟨S_, .f32⟩
  | 76 => ⟨S2x32x8x128, .f32⟩
  | 77 => ⟨S_, .f32⟩
  | 78 => ⟨S2x32x8x128, .f32⟩
  | 79 => ⟨S_, .f32⟩
  | 80 => ⟨S2x32x8x128, .f32⟩
  | 81 => ⟨S2x32x8x128, .f32⟩
  | 82 => ⟨S1x32x1x128, .f32⟩
  | 83 => ⟨S2x32x8x128, .f32⟩
  | 84 => ⟨S2x32x8x128, .f32⟩
  | 85 => ⟨S2x32x8x64, .f32⟩
  | 86 => ⟨S2x32x8x64, .f32⟩
  | 87 => ⟨S2x32x8x64, .f32⟩
  | 88 => ⟨S2x32x8x128, .f32⟩
  | 89 => ⟨S1x32x1x128, .f32⟩
  | 90 => ⟨S2x32x8x128, .f32⟩
  | 91 => ⟨S2x32x8x128, .f32⟩
  | 92 => ⟨S2x32x8x128, .f32⟩
  | 93 => ⟨S1x32x1x128, .f32⟩
  | 94 => ⟨S2x32x8x128, .f32⟩
  | 95 => ⟨S2x32x8x128, .f32⟩
  | 96 => ⟨S2x32x8x64, .f32⟩
  | 97 => ⟨S2x32x8x64, .f32⟩
  | 98 => ⟨S2x32x8x64, .f32⟩
  | 99 => ⟨S2x32x8x128, .f32⟩
  | 100 => ⟨S1x32x1x128, .f32⟩
  | 101 => ⟨S2x32x8x128, .f32⟩
  | 102 => ⟨S2x32x8x128, .f32⟩
  | 103 => ⟨S2x32x8x128, .f32⟩
  | 104 => ⟨S2x32x8x256, .f32⟩
  | 105 => ⟨S2x32x8x128, .f32⟩
  | 106 => ⟨S2x8x2048x32, .f32⟩
  | 107 => ⟨S_, .f32⟩
  | 108 => ⟨S_, .f32⟩
  | 109 => ⟨S2x8x2048x32, .f32⟩
  | 110 => ⟨S2x8x2048x32, .f32⟩
  | 111 => ⟨S_, .f32⟩
  | 112 => ⟨S_, .f32⟩
  | 113 => ⟨S2x8x2048x32, .i1⟩
  | 114 => ⟨S2x8x2048x32, .f32⟩
  | 115 => ⟨S2x8x2048x32, .f32⟩
  | 116 => ⟨S4096x1x128, .f32⟩
  | 117 => ⟨S4096x16x128, .f32⟩
  | 118 => ⟨S4096x16x128, .f32⟩
  | 119 => ⟨S4096x16x64, .f32⟩
  | 120 => ⟨S4096x16x64, .f32⟩
  | 121 => ⟨S4096x16x64, .f32⟩
  | 122 => ⟨S4096x16x128, .f32⟩
  | 123 => ⟨S4096x1x128, .f32⟩
  | 124 => ⟨S4096x16x128, .f32⟩
  | 125 => ⟨S4096x16x128, .f32⟩
  | 126 => ⟨S4096x16x128, .f32⟩
  | 127 => ⟨S4096x1x128, .f32⟩
  | _ => ⟨S4096x2048, .f32⟩

abbrev hbmTy0_1 (i : Nat) : BufTy := match i % 128 with
  | 0 => ⟨S4096x8x128, .f32⟩
  | 1 => ⟨S4096x8x128, .f32⟩
  | 2 => ⟨S4096x8x64, .f32⟩
  | 3 => ⟨S4096x8x64, .f32⟩
  | 4 => ⟨S4096x8x64, .f32⟩
  | 5 => ⟨S4096x8x128, .f32⟩
  | 6 => ⟨S4096x1x128, .f32⟩
  | 7 => ⟨S4096x8x128, .f32⟩
  | 8 => ⟨S4096x8x128, .f32⟩
  | 9 => ⟨S4096x8x128, .f32⟩
  | 10 => ⟨S2x2048x16x128, .f32⟩
  | 11 => ⟨S2x16x2048x128, .f32⟩
  | 12 => ⟨S2x2048x8x128, .f32⟩
  | 13 => ⟨S2x2048x8x2x128, .f32⟩
  | 14 => ⟨S2x2048x16x128, .f32⟩
  | 15 => ⟨S2x16x2048x128, .f32⟩
  | 16 => ⟨S2x2048x8x128, .f32⟩
  | 17 => ⟨S2x2048x8x2x128, .f32⟩
  | 18 => ⟨S2x2048x16x128, .f32⟩
  | 19 => ⟨S2x16x2048x128, .f32⟩
  | 20 => ⟨S2x16x2048x2048, .f32⟩
  | 21 => ⟨S_, .f32⟩
  | 22 => ⟨S_, .f32⟩
  | 23 => ⟨S2x16x2048x2048, .f32⟩
  | 24 => ⟨S2x16x2048x2048, .f32⟩
  | 25 => ⟨S_, .i1⟩
  | 26 => ⟨S2048x2048, .i1⟩
  | 27 => ⟨S2048x2048, .i32⟩
  | 28 => ⟨S_, .i32⟩
  | 29 => ⟨S2048x2048, .i32⟩
  | 30 => ⟨S2048x2048, .i32⟩
  | 31 => ⟨S2048x2048, .i32⟩
  | 32 => ⟨S2048x2048, .i1⟩
  | 33 => ⟨S_, .i1⟩
  | 34 => ⟨S2048x2048, .i1⟩
  | 35 => ⟨S2048x2048, .i1⟩
  | 36 => ⟨S1x1x2048x2048, .i1⟩
  | 37 => ⟨S_, .f32⟩
  | 38 => ⟨S_, .f32⟩
  | 39 => ⟨S2x16x2048x2048, .i1⟩
  | 40 => ⟨S2x16x2048x2048, .f32⟩
  | 41 => ⟨S2x16x2048x2048, .f32⟩
  | 42 => ⟨S_, .f32⟩
  | 43 => ⟨S2x16x2048, .f32⟩
  | 44 => ⟨S_, .f32⟩
  | 45 => ⟨S2x16x2048, .f32⟩
  | 46 => ⟨S2x16x2048, .f32⟩
  | 47 => ⟨S2x16x2048x1, .f32⟩
  | 48 => ⟨S2x16x2048x2048, .f32⟩
  | 49 => ⟨S2x16x2048x2048, .f32⟩
  | 50 => ⟨S2x16x2048x2048, .f32⟩
  | 51 => ⟨S_, .f32⟩
  | 52 => ⟨S2x16x2048, .f32⟩
  | 53 => ⟨S2x16x2048x1, .f32⟩
  | 54 => ⟨S2x16x2048x2048, .f32⟩
  | 55 => ⟨S2x16x2048x2048, .f32⟩
  | 56 => ⟨S2x16x2048x128, .f32⟩
  | 57 => ⟨S2x2048x16x128, .f32⟩
  | 58 => ⟨S4096x2048, .f32⟩
  | 59 => ⟨S4096x2048, .f32⟩
  | 60 => ⟨S2x16x2048x32x64, .f32⟩
  | 61 => ⟨S_, .f32⟩
  | 62 => ⟨S2x16x2048x32, .f32⟩
  | 63 => ⟨S2x8x2x2048x32, .f32⟩
  | 64 => ⟨S_, .f32⟩
  | 65 => ⟨S2x8x2048x32, .f32⟩
  | 66 => ⟨S_, .f32⟩
  | 67 => ⟨S_, .f32⟩
  | 68 => ⟨S2x8x2048x32, .i1⟩
  | 69 => ⟨S2x8x2048x32, .f32⟩
  | 70 => ⟨S2x8x2048x32, .f32⟩
  | 71 => ⟨S_, .f32⟩
  | 72 => ⟨S2x8x2048, .f32⟩
  | 73 => ⟨S2x8x2048x1, .f32⟩
  | 74 => ⟨S_, .f32⟩
  | 75 => ⟨S2x8x2048x1, .f32⟩
  | 76 => ⟨S2x8x2048x1, .f32⟩
  | 77 => ⟨S2x8x2048x32, .f32⟩
  | 78 => ⟨S2x8x2048x32, .f32⟩
  | 79 => ⟨S1x8x2048x32, .f32⟩
  | 80 => ⟨S8x2048x32, .f32⟩
  | 81 => ⟨S_, .f32⟩
  | 82 => ⟨S8x2048, .f32⟩
  | 83 => ⟨S_, .f32⟩
  | 84 => ⟨S8x2048, .f32⟩
  | 85 => ⟨S8x2048, .f32⟩
  | 86 => ⟨S8x2048x1, .f32⟩
  | 87 => ⟨S8x2048x32, .f32⟩
  | 88 => ⟨S8x2048x32, .f32⟩
  | 89 => ⟨S8x2048x32, .f32⟩
  | 90 => ⟨S_, .f32⟩
  | 91 => ⟨S8x2048, .f32⟩
  | 92 => ⟨S8x2048x1, .f32⟩
  | 93 => ⟨S8x2048x1, .f32⟩
  | 94 => ⟨S8x2048x32, .f32⟩
  | 95 => ⟨S8x2048x32, .f32⟩
  | 96 => ⟨S1x8x2048x32, .f32⟩
  | 97 => ⟨S8x2048x32, .f32⟩
  | 98 => ⟨S_, .f32⟩
  | 99 => ⟨S8x2048x32, .f32⟩
  | 100 => ⟨S8x2048x32, .i1⟩
  | 101 => ⟨S_, .f32⟩
  | 102 => ⟨S_, .f32⟩
  | 103 => ⟨S8x2048x32, .f32⟩
  | 104 => ⟨S8x2048x32, .f32⟩
  | 105 => ⟨S_, .f32⟩
  | 106 => ⟨S8x2048x32, .f32⟩
  | 107 => ⟨S8x2048x32, .i1⟩
  | 108 => ⟨S8x2048x32, .f32⟩
  | 109 => ⟨S8x2048x32, .f32⟩
  | 110 => ⟨S8x2048x32, .f32⟩
  | 111 => ⟨S_, .f32⟩
  | 112 => ⟨S_, .f32⟩
  | 113 => ⟨S8x2048x32, .f32⟩
  | 114 => ⟨S8x2048x32, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1x8x2048x32, .f32⟩
  | 122 => ⟨S8x2048x32, .f32⟩
  | 123 => ⟨S_, .f32⟩
  | 124 => ⟨S8x2048, .f32⟩
  | 125 => ⟨S_, .f32⟩
  | 126 => ⟨S8x2048, .f32⟩
  | 127 => ⟨S8x2048, .f32⟩
  | _ => ⟨S4096x2048, .f32⟩

abbrev hbmTy0_2 (i : Nat) : BufTy := match i % 128 with
  | 0 => ⟨S8x2048x1, .f32⟩
  | 1 => ⟨S8x2048x32, .f32⟩
  | 2 => ⟨S8x2048x32, .f32⟩
  | 3 => ⟨S8x2048x32, .f32⟩
  | 4 => ⟨S_, .f32⟩
  | 5 => ⟨S8x2048, .f32⟩
  | 6 => ⟨S8x2048x1, .f32⟩
  | 7 => ⟨S8x2048x1, .f32⟩
  | 8 => ⟨S8x2048x32, .f32⟩
  | 9 => ⟨S8x2048x32, .f32⟩
  | 10 => ⟨S1x8x2048x32, .f32⟩
  | 11 => ⟨S8x2048x32, .f32⟩
  | 12 => ⟨S_, .f32⟩
  | 13 => ⟨S8x2048x32, .f32⟩
  | 14 => ⟨S8x2048x32, .i1⟩
  | 15 => ⟨S_, .f32⟩
  | 16 => ⟨S_, .f32⟩
  | 17 => ⟨S8x2048x32, .f32⟩
  | 18 => ⟨S8x2048x32, .f32⟩
  | 19 => ⟨S_, .f32⟩
  | 20 => ⟨S8x2048x32, .f32⟩
  | 21 => ⟨S8x2048x32, .i1⟩
  | 22 => ⟨S8x2048x32, .f32⟩
  | 23 => ⟨S8x2048x32, .f32⟩
  | 24 => ⟨S8x2048x32, .f32⟩
  | 25 => ⟨S_, .f32⟩
  | 26 => ⟨S_, .f32⟩
  | 27 => ⟨S8x2048x32, .f32⟩
  | 28 => ⟨S8x2048x32, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_12 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_c : Ref sig .tc := ⟨.hbm, 153, rfl⟩
abbrev main_v119 : Ref sig .tc := ⟨.hbm, 154, rfl⟩
abbrev main_call1_v0 : Ref sig .tc := ⟨.hbm, 155, rfl⟩
abbrev main_call1_c : Ref sig .tc := ⟨.hbm, 156, rfl⟩
abbrev main_call1_v1 : Ref sig .tc := ⟨.hbm, 157, rfl⟩
abbrev main_call1_v2 : Ref sig .tc := ⟨.hbm, 158, rfl⟩
abbrev main_call1_v3 : Ref sig .tc := ⟨.hbm, 159, rfl⟩
abbrev main_call1_v4 : Ref sig .tc := ⟨.hbm, 160, rfl⟩
abbrev main_call1_c_0 : Ref sig .tc := ⟨.hbm, 161, rfl⟩
abbrev main_call1_v5 : Ref sig .tc := ⟨.hbm, 162, rfl⟩
abbrev main_v120 : Ref sig .tc := ⟨.hbm, 163, rfl⟩
abbrev main_v121 : Ref sig .tc := ⟨.hbm, 164, rfl⟩
abbrev main_cst_13 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_v122 : Ref sig .tc := ⟨.hbm, 169, rfl⟩
abbrev main_cst_14 : Ref sig .tc := ⟨.hbm, 170, rfl⟩
abbrev main_v123 : Ref sig .tc := ⟨.hbm, 171, rfl⟩
abbrev main_cst_15 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_16 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_17 : Ref sig .tc := ⟨.hbm, 189, rfl⟩
abbrev main_v139 : Ref sig .tc := ⟨.hbm, 190, rfl⟩
abbrev main_v140 : Ref sig .tc := ⟨.hbm, 191, rfl⟩
abbrev main_cst_18 : Ref sig .tc := ⟨.hbm, 192, rfl⟩
abbrev main_v141 : Ref sig .tc := ⟨.hbm, 193, rfl⟩
abbrev main_cst_19 : Ref sig .tc := ⟨.hbm, 194, rfl⟩
abbrev main_call3_v0 : Ref sig .tc := ⟨.hbm, 195, rfl⟩
abbrev main_call3_v1 : Ref sig .tc := ⟨.hbm, 196, rfl⟩
abbrev main_call3_v2 : Ref sig .tc := ⟨.hbm, 197, rfl⟩
abbrev main_v142 : Ref sig .tc := ⟨.hbm, 198, rfl⟩
abbrev main_cst_20 : Ref sig .tc := ⟨.hbm, 199, rfl⟩
abbrev main_v143 : Ref sig .tc := ⟨.hbm, 200, rfl⟩
abbrev main_v144 : Ref sig .tc := ⟨.hbm, 201, rfl⟩
abbrev main_cst_21 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_call4_cst : Ref sig .tc := ⟨.hbm, 209, rfl⟩
abbrev main_call4_v0 : Ref sig .tc := ⟨.hbm, 210, rfl⟩
abbrev main_call4_cst_0 : Ref sig .tc := ⟨.hbm, 211, rfl⟩
abbrev main_call4_v1 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_call4_v5 : Ref sig .tc := ⟨.hbm, 216, rfl⟩
abbrev main_call4_v6 : Ref sig .tc := ⟨.hbm, 217, rfl⟩
abbrev main_call4_cst_1 : Ref sig .tc := ⟨.hbm, 218, rfl⟩
abbrev main_call4_v7 : Ref sig .tc := ⟨.hbm, 219, rfl⟩
abbrev main_call4_v8 : Ref sig .tc := ⟨.hbm, 220, rfl⟩
abbrev main_call4_v9 : Ref sig .tc := ⟨.hbm, 221, rfl⟩
abbrev main_call4_v10 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_22 : Ref sig .tc := ⟨.hbm, 226, rfl⟩
abbrev main_v154 : Ref sig .tc := ⟨.hbm, 227, rfl⟩
abbrev main_v155 : Ref sig .tc := ⟨.hbm, 228, rfl⟩
abbrev main_cst_23 : Ref sig .tc := ⟨.hbm, 229, rfl⟩
abbrev main_call5_v0 : Ref sig .tc := ⟨.hbm, 230, rfl⟩
abbrev main_call5_v1 : Ref sig .tc := ⟨.hbm, 231, rfl⟩
abbrev main_v156 : Ref sig .tc := ⟨.hbm, 232, rfl⟩
abbrev main_cst_24 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_25 : Ref sig .tc := ⟨.hbm, 239, rfl⟩
abbrev main_call6_v0 : Ref sig .tc := ⟨.hbm, 240, rfl⟩
abbrev main_call6_v1 : Ref sig .tc := ⟨.hbm, 241, rfl⟩
abbrev main_v162 : Ref sig .tc := ⟨.hbm, 242, rfl⟩
abbrev main_cst_26 : Ref sig .tc := ⟨.hbm, 243, rfl⟩
abbrev main_v163 : Ref sig .tc := ⟨.hbm, 244, rfl⟩
abbrev main_cst_27 : Ref sig .tc := ⟨.hbm, 245, rfl⟩
abbrev main_v164 : Ref sig .tc := ⟨.hbm, 246, rfl⟩
abbrev main_cst_28 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_call7_cst : Ref sig .tc := ⟨.hbm, 251, rfl⟩
abbrev main_call7_v0 : Ref sig .tc := ⟨.hbm, 252, rfl⟩
abbrev main_call7_cst_0 : Ref sig .tc := ⟨.hbm, 253, rfl⟩
abbrev main_call7_v1 : Ref sig .tc := ⟨.hbm, 254, rfl⟩
abbrev main_call7_v2 : Ref sig .tc := ⟨.hbm, 255, rfl⟩
abbrev main_call7_v3 : Ref sig .tc := ⟨.hbm, 256, rfl⟩
abbrev main_call7_v4 : Ref sig .tc := ⟨.hbm, 257, rfl⟩
abbrev main_call7_v5 : Ref sig .tc := ⟨.hbm, 258, rfl⟩
abbrev main_call7_v6 : Ref sig .tc := ⟨.hbm, 259, rfl⟩
abbrev main_call7_cst_1 : Ref sig .tc := ⟨.hbm, 260, rfl⟩
abbrev main_call7_v7 : Ref sig .tc := ⟨.hbm, 261, rfl⟩
abbrev main_call7_v8 : Ref sig .tc := ⟨.hbm, 262, rfl⟩
abbrev main_call7_v9 : Ref sig .tc := ⟨.hbm, 263, rfl⟩
abbrev main_call7_v10 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_cst_29 : Ref sig .tc := ⟨.hbm, 268, rfl⟩
abbrev main_v171 : Ref sig .tc := ⟨.hbm, 269, rfl⟩
abbrev main_v172 : Ref sig .tc := ⟨.hbm, 270, rfl⟩
abbrev main_cst_30 : Ref sig .tc := ⟨.hbm, 271, rfl⟩
abbrev main_call8_v0 : Ref sig .tc := ⟨.hbm, 272, rfl⟩
abbrev main_call8_v1 : Ref sig .tc := ⟨.hbm, 273, rfl⟩
abbrev main_v173 : Ref sig .tc := ⟨.hbm, 274, rfl⟩
abbrev main_cst_31 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_32 : Ref sig .tc := ⟨.hbm, 281, rfl⟩
abbrev main_call9_v0 : Ref sig .tc := ⟨.hbm, 282, rfl⟩
abbrev main_call9_v1 : Ref sig .tc := ⟨.hbm, 283, rfl⟩
abbrev main_v179 : Ref sig .tc := ⟨.hbm, 284, rfl⟩
abbrev main_cst_33 : Ref sig .tc := ⟨.hbm, 285, rfl⟩
abbrev main_v180 : Ref sig .tc := ⟨.hbm, 286, rfl⟩
abbrev main_cst_34 : Ref sig .tc := ⟨.hbm, 287, rfl⟩
abbrev main_v181 : Ref sig .tc := ⟨.hbm, 288, rfl⟩
abbrev main_v182 : Ref sig .tc := ⟨.hbm, 289, rfl⟩
abbrev main_cst_35 : Ref sig .tc := ⟨.hbm, 290, rfl⟩
abbrev main_v183 : Ref sig .tc := ⟨.hbm, 291, rfl⟩

abbrev nD : Nat := 1
abbrev τ : Topo := Topo.v7x

variable {F : FTy → Type} [FloatOps F]
-- ==== Proof.Spec.lean ====
/- The value both programs compute, stated over functions of natural-number indices: projections, normalised and rotated
   heads, scores of the causal attention, the gate's pooled keys, and the gate's divergence. -/
module
public import Idealize.ShloMosaic.Lib.Pointwise
@[expose] public section
noncomputable section
namespace Cert.Spec
open Idealize.ShloMosaic

/-- The float 128 of both programs. -/
def c128 : EReal := Ideal.ofBits .f32 0x43000000#32
/-- The float 64 of both programs. -/
def c64 : EReal := Ideal.ofBits .f32 0x42800000#32
/-- The float 2 of both programs. -/
def c2 : EReal := Ideal.ofBits .f32 0x40000000#32
/-- The normalisation's small positive addend. -/
def eps : EReal := Ideal.ofBits .f32 0x358637BD#32
/-- The gate target's small positive addend. -/
def tiny : EReal := Ideal.ofBits .f32 0x3089705F#32

/-- The scale of the scores, `1 / √128`. -/
def isd : EReal := (((Real.sqrt 128)⁻¹ : ℝ) : EReal)

/-- Row times matrix: entry `j` of the product of the row `a` of length `n` with `W`. -/
def lin (n : ℕ) (a : ℕ → EReal) (W : ℕ → ℕ → EReal) (j : ℕ) : EReal := ∑ k : Fin n, a k * W k j

/-- Root-mean-square normalisation of a head of 128 entries, weighted. -/
def norm (f w : ℕ → EReal) (d : ℕ) : EReal :=
  f d * Ideal.rsqrt (Ideal.div (∑ e : Fin 128, f e * f e) c128 + eps) * w d

/-- Rotary embedding of a head of 128 entries. -/
def rope (f c s : ℕ → EReal) (d : ℕ) : EReal :=
  f d * c d + (if d < 64 then 0 - f (64 + d) else f (d - 64)) * s d

/-- The arrays both programs take, by natural-number indices. -/
structure In where
  h : ℕ → ℕ → EReal
  cos : ℕ → ℕ → EReal
  sin : ℕ → ℕ → EReal
  cg : ℕ → ℕ → EReal
  sg : ℕ → ℕ → EReal
  bc : ℕ → ℕ → EReal
  bs : ℕ → ℕ → EReal
  wq : ℕ → ℕ → EReal
  wk : ℕ → ℕ → EReal
  wv : ℕ → ℕ → EReal
  wo : ℕ → ℕ → EReal
  qw : ℕ → EReal
  kw : ℕ → EReal
  gq : ℕ → ℕ → EReal
  gk : ℕ → ℕ → EReal

variable (P : In)

/-- Normalised query head `n` of token `t`. -/
def qn (t n d : ℕ) : EReal := norm (fun e => lin 2048 (P.h t) P.wq (n * 128 + e)) P.qw d
/-- Rotated query head. -/
def qr (t n d : ℕ) : EReal := rope (qn P t n) (P.cos t) (P.sin t) d
/-- Normalised key head `n` of token `t`. -/
def kn (t n d : ℕ) : EReal := norm (fun e => lin 2048 (P.h t) P.wk (n * 128 + e)) P.kw d
/-- Rotated key head. -/
def kr (t n d : ℕ) : EReal := rope (kn P t n) (P.cos t) (P.sin t) d
/-- Value head. -/
def vv (t n d : ℕ) : EReal := lin 2048 (P.h t) P.wv (n * 128 + d)
/-- Mean of the two query heads of group `n`. -/
def qgm (t n d : ℕ) : EReal := Ideal.div (∑ g : Fin 2, qn P t (n * 2 + g) d) c2
/-- The gate's query of group `n`, rotated and projected. -/
def qg (t n d : ℕ) : EReal := lin 128 (rope (qgm P t n) (P.cg t) (P.sg t)) P.gq d
/-- Largest normalised key of a block of 64 tokens (`b` counts blocks over both sequences). -/
def kmax (b n d : ℕ) : EReal := Finset.univ.sup fun r : Fin 64 => kn P (b * 64 + r) n d
/-- Mean normalised key of a block. -/
def kavg (b n d : ℕ) : EReal := Ideal.div (∑ r : Fin 64, kn P (b * 64 + r) n d) c64
/-- The gate's pooled key before projection: 128 entries of rotated maximum, 128 of rotated mean. -/
def kcat (b n d : ℕ) : EReal :=
  if d < 128 then rope (kmax P b n) (P.bc (b % 32)) (P.bs (b % 32)) d
  else rope (kavg P b n) (P.bc (b % 32)) (P.bs (b % 32)) (d - 128)
/-- The gate's pooled key. -/
def kg (b n d : ℕ) : EReal := lin 256 (kcat P b n) P.gk d

end Cert.Spec
end
-- ==== Proof.Pay0.lean ====
/- The projection kernel's stored vectors, read at an index, are the specification's values at the token of the tile. -/
module
public import proofs.«01_k».proof.Proof.Gen.KernelIdeal.Skeleton
public import proofs.«01_k».proof.Proof.Spec
@[expose] public section
set_option maxRecDepth 16384
noncomputable section
namespace Cert.KV
open Cert.KernelIdeal Cert.KernelIdeal.Gen Idealize.ShloMosaic Idealize.ShloMosaic.TcCoe Cert.Spec
variable [Cert.KernelIdeal.Facts] (P : In) (t : ℕ)

/-- The float pattern of minus infinity denotes the bottom. -/
theorem bot_bits : Ideal.ofBits .f32 4286578688#32 = ⊥ := by simp [Ideal.ofBits, Ideal.ieee]

/-- A sum of 128 terms by its two halves. -/
theorem sum_halves (f : ℕ → EReal) : ∑ x : Fin 128, f x = ∑ x : Fin 64, f x + ∑ x : Fin 64, f (64 + x) := by
  rw [Fin.sum_univ_eq_sum_range f 128, Fin.sum_univ_eq_sum_range f 64, Fin.sum_univ_eq_sum_range (fun x => f (64 + x)) 64]
  exact Finset.sum_range_add f 64 64

/-- Normalised query heads. -/
theorem pay4_eq (x0 : Vec Ideal S512x2048 .bf16) (x7 : Vec Ideal S2048x2048 .bf16) (x10 : Vec Ideal S1x128 .f32)
    (h0 : ∀ r k, x0 (ix2 r k) = P.h (t * 512 + r) k) (h7 : ∀ k j, x7 (ix2 k j) = P.wq k j)
    (h10 : ∀ a d, x10 (ix2 a d) = P.qw d) (r : Fin 512) (n : Fin 16) (d : Fin 128) :
    k0_pay4 x0 x7 x10 (ix3 r n d) = qn P (t * 512 + r) n d := by
  pointwise [k0_pay4, k0_pay3]
  simp only [h0, h7, h10]
  rfl

/-- Rotated query heads, packed. -/
theorem pay5_eq (x0 : Vec Ideal S512x2048 .bf16) (x1 x2 : Vec Ideal S512x128 .f32) (x7 : Vec Ideal S2048x2048 .bf16)
    (x10 : Vec Ideal S1x128 .f32)
    (h0 : ∀ r k, x0 (ix2 r k) = P.h (t * 512 + r) k) (h7 : ∀ k j, x7 (ix2 k j) = P.wq k j)
    (h10 : ∀ a d, x10 (ix2 a d) = P.qw d) (h1 : ∀ r d, x1 (ix2 r d) = P.cos (t * 512 + r) d)
    (h2 : ∀ r d, x2 (ix2 r d) = P.sin (t * 512 + r) d) (r : Fin 512) (j : Fin 2048) :
    k0_pay5 x0 x1 x2 x7 x10 (ix2 r j) = qr P (t * 512 + r) (j / 128) (j % 128) := by
  have hX := pay4_eq P t x0 x7 x10 h0 h7 h10
  unfold k0_pay5
  generalize k0_pay4 x0 x7 x10 = X at hX
  pointwise []
  simp only [hX, h1, h2, dite_eq_ite]
  rfl

/-- The gate's query before projection, times two. -/
theorem pay6_eq (x0 : Vec Ideal S512x2048 .bf16) (x7 : Vec Ideal S2048x2048 .bf16) (x10 : Vec Ideal S1x128 .f32)
    (h0 : ∀ r k, x0 (ix2 r k) = P.h (t * 512 + r) k) (h7 : ∀ k j, x7 (ix2 k j) = P.wq k j)
    (h10 : ∀ a d, x10 (ix2 a d) = P.qw d) (r : Fin 512) (n : Fin 8) (d : Fin 128) :
    k0_pay6 x0 x7 x10 (ix3 r n d) = ∑ g : Fin 2, qn P (t * 512 + r) (n * 2 + g) d := by
  have hX := pay4_eq P t x0 x7 x10 h0 h7 h10
  unfold k0_pay6
  generalize k0_pay4 x0 x7 x10 = X at hX
  pointwise []
  simp only [hX]

/-- The gate's query. -/
theorem pay7_eq (v39 : FVec Ideal S512x8x128 .f32) (x3 x4 : Vec Ideal S512x128 .f32) (x12 : Vec Ideal S128x128 .bf16)
    (hv : ∀ r n d, v39 (ix3 r n d) = ∑ g : Fin 2, qn P (t * 512 + r) (n * 2 + g) d)
    (h3 : ∀ r d, x3 (ix2 r d) = P.cg (t * 512 + r) d) (h4 : ∀ r d, x4 (ix2 r d) = P.sg (t * 512 + r) d)
    (h12 : ∀ k j, x12 (ix2 k j) = P.gq k j) (r : Fin 512) (j : Fin 1024) :
    k0_pay7 v39 x3 x4 x12 (ix2 r j) = qg P (t * 512 + r) (j / 128) (j % 128) := by
  pointwise [k0_pay7]
  have e8 : (r.val * 8 + j.val / 128) % 8 = j.val / 128 := by omega
  simp only [hv, h3, h4, h12, e8]
  rw [qg, lin, sum_halves (fun k => rope (qgm P (t * 512 + r) (j / 128)) (P.cg (t * 512 + r)) (P.sg (t * 512 + r)) k * P.gq k (j % 128))]
  have hlt : ∀ x : Fin 64, x.val < 64 := fun x => x.isLt
  have hge : ∀ x : Fin 64, ¬ (64 + x.val < 64) := fun x => by omega
  have hsub : ∀ x : Fin 64, 64 + x.val - 64 = x.val := fun x => by omega
  simp only [rope, hlt, hge, hsub, if_true, if_false]
  rfl

/-- Normalised key heads. -/
theorem pay10_eq (x0 : Vec Ideal S512x2048 .bf16) (x8 : Vec Ideal S2048x1024 .bf16) (x11 : Vec Ideal S1x128 .f32)
    (h0 : ∀ r k, x0 (ix2 r k) = P.h (t * 512 + r) k) (h8 : ∀ k j, x8 (ix2 k j) = P.wk k j)
    (h11 : ∀ a d, x11 (ix2 a d) = P.kw d) (r : Fin 512) (n : Fin 8) (d : Fin 128) :
    k0_pay10 (k0_pay8 (k0_pay3 x0) x8) (k0_pay9 x11) (ix3 r n d) = kn P (t * 512 + r) n d := by
  pointwise [k0_pay10, k0_pay8, k0_pay9, k0_pay3]
  simp only [h0, h8, h11]
  rfl

/-- Rotated key heads, packed. -/
theorem pay11_eq (v77 : FVec Ideal S512x8x128 .f32) (v79 : FVec Ideal S128 .f32) (x1 x2 : Vec Ideal S512x128 .f32)
    (hX : ∀ r n d, k0_pay10 v77 v79 (ix3 r n d) = kn P (t * 512 + r) n d) (h1 : ∀ r d, x1 (ix2 r d) = P.cos (t * 512 + r) d)
    (h2 : ∀ r d, x2 (ix2 r d) = P.sin (t * 512 + r) d) (r : Fin 512) (j : Fin 1024) :
    k0_pay11 x1 x2 v77 v79 (ix2 r j) = kr P (t * 512 + r) (j / 128) (j % 128) := by
  unfold k0_pay11
  generalize k0_pay10 v77 v79 = X at hX
  pointwise []
  simp only [hX, h1, h2, dite_eq_ite]
  rfl

/-- Value heads, packed. -/
theorem pay2_eq (x0 : Vec Ideal S512x2048 .bf16) (x9 : Vec Ideal S2048x1024 .bf16)
    (h0 : ∀ r k, x0 (ix2 r k) = P.h (t * 512 + r) k) (h9 : ∀ k j, x9 (ix2 k j) = P.wv k j) (r : Fin 512) (j : Fin 1024) :
    k0_pay2 (k0_pay3 x0) x9 (ix2 r j) = vv P (t * 512 + r) (j / 128) (j % 128) := by
  pointwise [k0_pay2, k0_pay3]
  simp only [h0, h9, vv, lin, Nat.div_add_mod']

/-- The gate's pooled keys of the tile's eight blocks, packed. -/
theorem pay1_eq (v77 : FVec Ideal S512x8x128 .f32) (v79 : FVec Ideal S128 .f32) (x5 x6 : Vec Ideal S8x1x128 .f32)
    (x13 : Vec Ideal S256x128 .bf16)
    (hX : ∀ r n d, k0_pay10 v77 v79 (ix3 r n d) = kn P (t * 512 + r) n d)
    (h5 : ∀ a z d, x5 (ix3 a z d) = P.bc ((t * 8 + a) % 32) d)
    (h6 : ∀ a z d, x6 (ix3 a z d) = P.bs ((t * 8 + a) % 32) d)
    (h13 : ∀ k j, x13 (ix2 k j) = P.gk k j) (a : Fin 8) (z : Fin 1) (j : Fin 1024) :
    k0_pay1 (k0_pay13 v77 v79) (k0_pay15 x6) (k0_pay16 v77 v79 x5 x6) (k0_pay17 v77 v79 x5) (k0_pay18 v77 v79) x13
      (ix3 a z j) = kg P (t * 8 + a) (j / 128) (j % 128) := by
  have e8 : ∀ a : Fin 8, (a.val * 8 + j.val / 128) % 8 = j.val / 128 := by intro a; omega
  have hr : ∀ (a : Fin 8) (r : Fin 64), t * 512 + (a.val * 64 + r.val) = (t * 8 + a.val) * 64 + r.val := by intro a r; omega
  have hmax : ∀ n d, Finset.fold max (Ideal.ofBits FTy.f32 4286578688#32) (fun x : Fin 64 => kn P ((t * 8 + a.val) * 64 + x.val) n d) Finset.univ
      = kmax P (t * 8 + a) n d := by
    intro n d; rw [bot_bits]; rfl
  unfold k0_pay18 k0_pay17 k0_pay16 k0_pay13 k0_pay12
  generalize k0_pay10 v77 v79 = X at hX
  pointwise [k0_pay1, k0_pay14, k0_pay15]
  simp only [hX, h5, h6, h13, dite_eq_ite, e8, hr, hmax]
  rfl
end Cert.KV
-- ==== Proof.Reg0.lean ====
/- The arrays the projection kernel leaves, of the arrays it reads. -/
module
public import proofs.«01_k».proof.Proof.Gen.KernelIdeal.Frame
public import proofs.«01_k».proof.Proof.Pay0
public import Idealize.ShloMosaic.Lib.Pipeline.ValueKit.Point
@[expose] public section
set_option maxRecDepth 16384
noncomputable section
namespace Cert.KV
open Cert.KernelIdeal Cert.KernelIdeal.Gen Idealize.ShloMosaic Idealize.ShloMosaic.TcCoe Cert.Spec

/-- The block index of window 0 of the projection kernel at each grid point. -/
theorem e0_0 : ∀ t : Fin cfg0.N, win0_0.index t = ![t.val, 0] := (by decide +kernel : ∀ t : Fin grid0.N, _)
/-- The block index of window 1 of the projection kernel at each grid point. -/
theorem e0_1 : ∀ t : Fin cfg0.N, win0_1.index t = ![t.val, 0] := (by decide +kernel : ∀ t : Fin grid0.N, _)
/-- The block index of window 2 of the projection kernel at each grid point. -/
theorem e0_2 : ∀ t : Fin cfg0.N, win0_2.index t = ![t.val, 0] := (by decide +kernel : ∀ t : Fin grid0.N, _)
/-- The block index of window 3 of the projection kernel at each grid point. -/
theorem e0_3 : ∀ t : Fin cfg0.N, win0_3.index t = ![t.val, 0] := (by decide +kernel : ∀ t : Fin grid0.N, _)
/-- The block index of window 4 of the projection kernel at each grid point. -/
theorem e0_4 : ∀ t : Fin cfg0.N, win0_4.index t = ![t.val, 0] := (by decide +kernel : ∀ t : Fin grid0.N, _)
/-- The block index of window 5 of the projection kernel at each grid point. -/
theorem e0_5 : ∀ t : Fin cfg0.N, win0_5.index t = ![t.val % 4, 0, 0] := (by decide +kernel : ∀ t : Fin grid0.N, _)
/-- The block index of window 6 of the projection kernel at each grid point. -/
theorem e0_6 : ∀ t : Fin cfg0.N, win0_6.index t = ![t.val % 4, 0, 0] := (by decide +kernel : ∀ t : Fin grid0.N, _)
/-- The block index of window 7 of the projection kernel at each grid point. -/
theorem e0_7 : ∀ t : Fin cfg0.N, win0_7.index t = ![0, 0] := (by decide +kernel : ∀ t : Fin grid0.N, _)
/-- The block index of window 8 of the projection kernel at each grid point. -/
theorem e0_8 : ∀ t : Fin cfg0.N, win0_8.index t = ![0, 0] := (by decide +kernel : ∀ t : Fin grid0.N, _)
/-- The block index of window 9 of the projection kernel at each grid point. -/
theorem e0_9 : ∀ t : Fin cfg0.N, win0_9.index t = ![0, 0] := (by decide +kernel : ∀ t : Fin grid0.N, _)
/-- The block index of window 10 of the projection kernel at each grid point. -/
theorem e0_10 : ∀ t : Fin cfg0.N, win0_10.index t = ![0, 0] := (by decide +kernel : ∀ t : Fin grid0.N, _)
/-- The block index of window 11 of the projection kernel at each grid point. -/
theorem e0_11 : ∀ t : Fin cfg0.N, win0_11.index t = ![0, 0] := (by decide +kernel : ∀ t : Fin grid0.N, _)
/-- The block index of window 12 of the projection kernel at each grid point. -/
theorem e0_12 : ∀ t : Fin cfg0.N, win0_12.index t = ![0, 0] := (by decide +kernel : ∀ t : Fin grid0.N, _)
/-- The block index of window 13 of the projection kernel at each grid point. -/
theorem e0_13 : ∀ t : Fin cfg0.N, win0_13.index t = ![0, 0] := (by decide +kernel : ∀ t : Fin grid0.N, _)
/-- The block index of window 14 of the projection kernel at each grid point. -/
theorem e0_14 : ∀ t : Fin cfg0.N, win0_14.index t = ![t.val, 0] := (by decide +kernel : ∀ t : Fin grid0.N, _)
/-- The block index of window 15 of the projection kernel at each grid point. -/
theorem e0_15 : ∀ t : Fin cfg0.N, win0_15.index t = ![t.val, 0] := (by decide +kernel : ∀ t : Fin grid0.N, _)
/-- The block index of window 16 of the projection kernel at each grid point. -/
theorem e0_16 : ∀ t : Fin cfg0.N, win0_16.index t = ![t.val, 0] := (by decide +kernel : ∀ t : Fin grid0.N, _)
/-- The block index of window 17 of the projection kernel at each grid point. -/
theorem e0_17 : ∀ t : Fin cfg0.N, win0_17.index t = ![t.val, 0] := (by decide +kernel : ∀ t : Fin grid0.N, _)
/-- The block index of window 18 of the projection kernel at each grid point. -/
theorem e0_18 : ∀ t : Fin cfg0.N, win0_18.index t = ![t.val, 0, 0] := (by decide +kernel : ∀ t : Fin grid0.N, _)

variable (V : (c : Dev nD) → (b : Ref sig .tc) → Buf (Elt Ideal) ((c.tc : Thread nD τ).loc b)) (c : Dev nD)

/-- Window 0's block, read in its array. -/
theorem b0_0 (t : Fin cfg0.N) (r : Fin 512) (k : Fin 2048) :
    (iblk0 V c 0 t : Vec Ideal S512x2048 .bf16) (ix2 r k) = (V c main_v0 : Vec Ideal S4096x2048 .bf16) (ix2 ⟨t.val * 512 + r, by have := t.isLt; change _ < 8 at this; omega⟩ k) := by
  blk_ext! [iblk0, e0_0 t]
/-- Window 1's block, read in its array. -/
theorem b0_1 (t : Fin cfg0.N) (r : Fin 512) (k : Fin 128) :
    (iblk0 V c 1 t : Vec Ideal S512x128 .f32) (ix2 r k) = (V c main_arg1 : Vec Ideal S4096x128 .f32) (ix2 ⟨t.val * 512 + r, by have := t.isLt; change _ < 8 at this; omega⟩ k) := by
  blk_ext! [iblk0, e0_1 t]
/-- Window 2's block, read in its array. -/
theorem b0_2 (t : Fin cfg0.N) (r : Fin 512) (k : Fin 128) :
    (iblk0 V c 2 t : Vec Ideal S512x128 .f32) (ix2 r k) = (V c main_arg2 : Vec Ideal S4096x128 .f32) (ix2 ⟨t.val * 512 + r, by have := t.isLt; change _ < 8 at this; omega⟩ k) := by
  blk_ext! [iblk0, e0_2 t]
/-- Window 3's block, read in its array. -/
theorem b0_3 (t : Fin cfg0.N) (r : Fin 512) (k : Fin 128) :
    (iblk0 V c 3 t : Vec Ideal S512x128 .f32) (ix2 r k) = (V c main_arg3 : Vec Ideal S4096x128 .f32) (ix2 ⟨t.val * 512 + r, by have := t.isLt; change _ < 8 at this; omega⟩ k) := by
  blk_ext! [iblk0, e0_3 t]
/-- Window 4's block, read in its array. -/
theorem b0_4 (t : Fin cfg0.N) (r : Fin 512) (k : Fin 128) :
    (iblk0 V c 4 t : Vec Ideal S512x128 .f32) (ix2 r k) = (V c main_arg4 : Vec Ideal S4096x128 .f32) (ix2 ⟨t.val * 512 + r, by have := t.isLt; change _ < 8 at this; omega⟩ k) := by
  blk_ext! [iblk0, e0_4 t]
/-- Window 5's block, read in its array. -/
theorem b0_5 (t : Fin cfg0.N) (r : Fin 8) (z : Fin 1) (k : Fin 128) :
    (iblk0 V c 5 t : Vec Ideal S8x1x128 .f32) (ix3 r z k) = (V c main_v1 : Vec Ideal S32x1x128 .f32) (ix3 ⟨t.val % 4 * 8 + r, by omega⟩ z k) := by
  blk_ext! [iblk0, e0_5 t]
/-- Window 6's block, read in its array. -/
theorem b0_6 (t : Fin cfg0.N) (r : Fin 8) (z : Fin 1) (k : Fin 128) :
    (iblk0 V c 6 t : Vec Ideal S8x1x128 .f32) (ix3 r z k) = (V c main_v2 : Vec Ideal S32x1x128 .f32) (ix3 ⟨t.val % 4 * 8 + r, by omega⟩ z k) := by
  blk_ext! [iblk0, e0_6 t]
/-- Window 7's block is its array. -/
theorem b0_7 (t : Fin cfg0.N) :
    (iblk0 V c 7 t : Vec Ideal S2048x2048 .bf16) = (V c main_v3 : Vec Ideal S2048x2048 .bf16) := by
  blk_ext! [iblk0, e0_7 t]
/-- Window 8's block is its array. -/
theorem b0_8 (t : Fin cfg0.N) :
    (iblk0 V c 8 t : Vec Ideal S2048x1024 .bf16) = (V c main_v4 : Vec Ideal S2048x1024 .bf16) := by
  blk_ext! [iblk0, e0_8 t]
/-- Window 9's block is its array. -/
theorem b0_9 (t : Fin cfg0.N) :
    (iblk0 V c 9 t : Vec Ideal S2048x1024 .bf16) = (V c main_v5 : Vec Ideal S2048x1024 .bf16) := by
  blk_ext! [iblk0, e0_9 t]
/-- Window 10's block is its array. -/
theorem b0_10 (t : Fin cfg0.N) :
    (iblk0 V c 10 t : Vec Ideal S1x128 .f32) = (V c main_v6 : Vec Ideal S1x128 .f32) := by
  blk_ext! [iblk0, e0_10 t]
/-- Window 11's block is its array. -/
theorem b0_11 (t : Fin cfg0.N) :
    (iblk0 V c 11 t : Vec Ideal S1x128 .f32) = (V c main_v7 : Vec Ideal S1x128 .f32) := by
  blk_ext! [iblk0, e0_11 t]
/-- Window 12's block is its array. -/
theorem b0_12 (t : Fin cfg0.N) :
    (iblk0 V c 12 t : Vec Ideal S128x128 .bf16) = (V c main_v8 : Vec Ideal S128x128 .bf16) := by
  blk_ext! [iblk0, e0_12 t]
/-- Window 13's block is its array. -/
theorem b0_13 (t : Fin cfg0.N) :
    (iblk0 V c 13 t : Vec Ideal S256x128 .bf16) = (V c main_v9 : Vec Ideal S256x128 .bf16) := by
  blk_ext! [iblk0, e0_13 t]

/-- The arrays the projection kernel reads hold the functions of `P`. -/
structure H0 (P : In) : Prop where
  w0 : ∀ r k, (V c main_v0 : Vec Ideal S4096x2048 .bf16) (ix2 r k) = P.h r k
  w1 : ∀ r k, (V c main_arg1 : Vec Ideal S4096x128 .f32) (ix2 r k) = P.cos r k
  w2 : ∀ r k, (V c main_arg2 : Vec Ideal S4096x128 .f32) (ix2 r k) = P.sin r k
  w3 : ∀ r k, (V c main_arg3 : Vec Ideal S4096x128 .f32) (ix2 r k) = P.cg r k
  w4 : ∀ r k, (V c main_arg4 : Vec Ideal S4096x128 .f32) (ix2 r k) = P.sg r k
  w5 : ∀ r z k, (V c main_v1 : Vec Ideal S32x1x128 .f32) (ix3 r z k) = P.bc r k
  w6 : ∀ r z k, (V c main_v2 : Vec Ideal S32x1x128 .f32) (ix3 r z k) = P.bs r k
  w7 : ∀ r k, (V c main_v3 : Vec Ideal S2048x2048 .bf16) (ix2 r k) = P.wq r k
  w8 : ∀ r k, (V c main_v4 : Vec Ideal S2048x1024 .bf16) (ix2 r k) = P.wk r k
  w9 : ∀ r k, (V c main_v5 : Vec Ideal S2048x1024 .bf16) (ix2 r k) = P.wv r k
  w10 : ∀ r k, (V c main_v6 : Vec Ideal S1x128 .f32) (ix2 r k) = P.qw k
  w11 : ∀ r k, (V c main_v7 : Vec Ideal S1x128 .f32) (ix2 r k) = P.kw k
  w12 : ∀ r k, (V c main_v8 : Vec Ideal S128x128 .bf16) (ix2 r k) = P.gq r k
  w13 : ∀ r k, (V c main_v9 : Vec Ideal S256x128 .bf16) (ix2 r k) = P.gk r k

variable {V c} {P : In} (H : H0 V c P) (t : Fin cfg0.N)
include H
/-- Window 0's block at a place. -/
theorem i0_0 (r : Fin 512) (k : Fin 2048) : (iblk0 V c 0 t : Vec Ideal S512x2048 .bf16) (ix2 r k) = P.h (t.val * 512 + r) k := (b0_0 V c t r k).trans (H.w0 _ _)
/-- Window 1's block at a place. -/
theorem i0_1 (r : Fin 512) (k : Fin 128) : (iblk0 V c 1 t : Vec Ideal S512x128 .f32) (ix2 r k) = P.cos (t.val * 512 + r) k := (b0_1 V c t r k).trans (H.w1 _ _)
/-- Window 2's block at a place. -/
theorem i0_2 (r : Fin 512) (k : Fin 128) : (iblk0 V c 2 t : Vec Ideal S512x128 .f32) (ix2 r k) = P.sin (t.val * 512 + r) k := (b0_2 V c t r k).trans (H.w2 _ _)
/-- Window 3's block at a place. -/
theorem i0_3 (r : Fin 512) (k : Fin 128) : (iblk0 V c 3 t : Vec Ideal S512x128 .f32) (ix2 r k) = P.cg (t.val * 512 + r) k := (b0_3 V c t r k).trans (H.w3 _ _)
/-- Window 4's block at a place. -/
theorem i0_4 (r : Fin 512) (k : Fin 128) : (iblk0 V c 4 t : Vec Ideal S512x128 .f32) (ix2 r k) = P.sg (t.val * 512 + r) k := (b0_4 V c t r k).trans (H.w4 _ _)
/-- Window 5's block at a place. -/
theorem i0_5 (r : Fin 8) (z : Fin 1) (k : Fin 128) : (iblk0 V c 5 t : Vec Ideal S8x1x128 .f32) (ix3 r z k) = P.bc ((t.val * 8 + r) % 32) k := by
  rw [b0_5 V c t r z k, H.w5]
  congr 1
  dsimp only
  omega
/-- Window 6's block at a place. -/
theorem i0_6 (r : Fin 8) (z : Fin 1) (k : Fin 128) : (iblk0 V c 6 t : Vec Ideal S8x1x128 .f32) (ix3 r z k) = P.bs ((t.val * 8 + r) % 32) k := by
  rw [b0_6 V c t r z k, H.w6]
  congr 1
  dsimp only
  omega
/-- Window 7's block at a place. -/
theorem i0_7 (r : Fin 2048) (k : Fin 2048) : (iblk0 V c 7 t : Vec Ideal S2048x2048 .bf16) (ix2 r k) = P.wq r k := by
  rw [b0_7 V c t, H.w7]
/-- Window 8's block at a place. -/
theorem i0_8 (r : Fin 2048) (k : Fin 1024) : (iblk0 V c 8 t : Vec Ideal S2048x1024 .bf16) (ix2 r k) = P.wk r k := by
  rw [b0_8 V c t, H.w8]
/-- Window 9's block at a place. -/
theorem i0_9 (r : Fin 2048) (k : Fin 1024) : (iblk0 V c 9 t : Vec Ideal S2048x1024 .bf16) (ix2 r k) = P.wv r k := by
  rw [b0_9 V c t, H.w9]
/-- Window 10's block at a place. -/
theorem i0_10 (r : Fin 1) (k : Fin 128) : (iblk0 V c 10 t : Vec Ideal S1x128 .f32) (ix2 r k) = P.qw k := by
  rw [b0_10 V c t, H.w10]
/-- Window 11's block at a place. -/
theorem i0_11 (r : Fin 1) (k : Fin 128) : (iblk0 V c 11 t : Vec Ideal S1x128 .f32) (ix2 r k) = P.kw k := by
  rw [b0_11 V c t, H.w11]
/-- Window 12's block at a place. -/
theorem i0_12 (r : Fin 128) (k : Fin 128) : (iblk0 V c 12 t : Vec Ideal S128x128 .bf16) (ix2 r k) = P.gq r k := by
  rw [b0_12 V c t, H.w12]
/-- Window 13's block at a place. -/
theorem i0_13 (r : Fin 256) (k : Fin 128) : (iblk0 V c 13 t : Vec Ideal S256x128 .bf16) (ix2 r k) = P.gk r k := by
  rw [b0_13 V c t, H.w13]

/-- The rotated query heads. -/
theorem final0_14 : (dat0 V c).arrAt 14 cfg0.N = (fun i => qr P (i 0).val ((i 1).val / 128) ((i 1).val % 128) : Vec Ideal S4096x2048 .bf16) := by
  refine (dat0 V c).arrAt_eq_of_covers 14 _ (by decide +kernel) fun t hf y => ?_
  blk_simp [e0_14 t]
  rw [after0_14]
  unfold out0_14
  rw [View.canon_cons_unit_lit _ _ _ (by decide)]

  rw [View.ld_unit_lit _ _ (by decide), View.ld_unit_lit _ _ (by decide), View.ld_unit_lit _ _ (by decide), View.ld_unit_lit _ _ (by decide), View.ld_unit_lit _ _ (by decide)]
  obtain ⟨r, j, rfl⟩ : ∃ r : Fin 512, ∃ j : Fin 2048, y = ix2 r j := ⟨y 0, y 1, by ext a; fin_cases a <;> rfl⟩
  exact pay5_eq P t _ _ _ _ _ (i0_0 H t) (i0_7 H t) (i0_10 H t) (i0_1 H t) (i0_2 H t) r j

/-- The rotated key heads. -/
theorem final0_15 : (dat0 V c).arrAt 15 cfg0.N = (fun i => kr P (i 0).val ((i 1).val / 128) ((i 1).val % 128) : Vec Ideal S4096x1024 .bf16) := by
  refine (dat0 V c).arrAt_eq_of_covers 15 _ (by decide +kernel) fun t hf y => ?_
  blk_simp [e0_15 t]
  rw [after0_15]
  unfold out0_15
  rw [View.canon_cons_unit_lit _ _ _ (by decide)]
  unfold k0_pay20 k0_pay21 k0_pay19
  rw [View.ld_unit_lit _ _ (by decide), View.ld_unit_lit _ _ (by decide), View.ld_unit_lit _ _ (by decide), View.ld_unit_lit _ _ (by decide), View.ld_unit_lit _ _ (by decide)]
  obtain ⟨r, j, rfl⟩ : ∃ r : Fin 512, ∃ j : Fin 1024, y = ix2 r j := ⟨y 0, y 1, by ext a; fin_cases a <;> rfl⟩
  exact pay11_eq P t _ _ _ _ (pay10_eq P t _ _ _ (i0_0 H t) (i0_8 H t) (i0_11 H t)) (i0_1 H t) (i0_2 H t) r j

/-- The value heads. -/
theorem final0_16 : (dat0 V c).arrAt 16 cfg0.N = (fun i => vv P (i 0).val ((i 1).val / 128) ((i 1).val % 128) : Vec Ideal S4096x1024 .bf16) := by
  refine (dat0 V c).arrAt_eq_of_covers 16 _ (by decide +kernel) fun t hf y => ?_
  blk_simp [e0_16 t]
  rw [after0_16]
  unfold out0_16
  rw [View.canon_cons_unit_lit _ _ _ (by decide)]
  unfold k0_pay19
  rw [View.ld_unit_lit _ _ (by decide), View.ld_unit_lit _ _ (by decide)]
  obtain ⟨r, j, rfl⟩ : ∃ r : Fin 512, ∃ j : Fin 1024, y = ix2 r j := ⟨y 0, y 1, by ext a; fin_cases a <;> rfl⟩
  exact pay2_eq P t _ _ (i0_0 H t) (i0_9 H t) r j

/-- The queries of the gate. -/
theorem final0_17 : (dat0 V c).arrAt 17 cfg0.N = (fun i => qg P (i 0).val ((i 1).val / 128) ((i 1).val % 128) : Vec Ideal S4096x1024 .bf16) := by
  refine (dat0 V c).arrAt_eq_of_covers 17 _ (by decide +kernel) fun t hf y => ?_
  blk_simp [e0_17 t]
  rw [after0_17]
  unfold out0_17
  rw [View.canon_cons_unit_lit _ _ _ (by decide)]

  rw [View.ld_unit_lit _ _ (by decide), View.ld_unit_lit _ _ (by decide), View.ld_unit_lit _ _ (by decide), View.ld_unit_lit _ _ (by decide), View.ld_unit_lit _ _ (by decide), View.ld_unit_lit _ _ (by decide)]
  obtain ⟨r, j, rfl⟩ : ∃ r : Fin 512, ∃ j : Fin 1024, y = ix2 r j := ⟨y 0, y 1, by ext a; fin_cases a <;> rfl⟩
  exact pay7_eq P t _ _ _ _ (pay6_eq P t _ _ _ (i0_0 H t) (i0_7 H t) (i0_10 H t)) (i0_3 H t) (i0_4 H t) (i0_12 H t) r j

/-- The pooled keys of the gate. -/
theorem final0_18 : (dat0 V c).arrAt 18 cfg0.N = (fun i => kg P (i 0).val ((i 2).val / 128) ((i 2).val % 128) : Vec Ideal S64x1x1024 .bf16) := by
  refine (dat0 V c).arrAt_eq_of_covers 18 _ (by decide +kernel) fun t hf y => ?_
  blk_simp [e0_18 t]
  rw [after0_18]
  unfold out0_18
  rw [View.canon_cons_unit_lit _ _ _ (by decide)]
  unfold k0_pay20 k0_pay21 k0_pay19
  rw [View.ld_unit_lit _ _ (by decide), View.ld_unit_lit _ _ (by decide), View.ld_unit_lit _ _ (by decide), View.ld_unit_lit _ _ (by decide), View.ld_unit_lit _ _ (by decide), View.ld_unit_lit _ _ (by decide)]
  obtain ⟨r, z, j, rfl⟩ : ∃ r : Fin 8, ∃ z : Fin 1, ∃ j : Fin 1024, y = ix3 r z j := ⟨y 0, y 1, y 2, by ext a; fin_cases a <;> rfl⟩
  exact pay1_eq P t _ _ _ _ _ (pay10_eq P t _ _ _ (i0_0 H t) (i0_8 H t) (i0_11 H t)) (i0_5 H t) (i0_6 H t) (i0_13 H t) r z j
end Cert.KV
-- ==== Proof.Row.lean ====
/- One row of scores taken in chunks of 512 keys: the running maximum, denominator, weighted sum and block sums are those of the keys seen. -/
module
public import proofs.«01_k».proof.Proof.Spec
@[expose] public section
noncomputable section
namespace Cert.Row
open Idealize.ShloMosaic

/-- A real value. -/
def IsR (x : EReal) : Prop := ∃ r : ℝ, x = r

/-- A real is not the top. -/
theorem IsR.ne_top {x : EReal} (h : IsR x) : x ≠ ⊤ := by obtain ⟨r, rfl⟩ := h; exact EReal.coe_ne_top r
/-- A real is not the bottom. -/
theorem IsR.ne_bot {x : EReal} (h : IsR x) : x ≠ ⊥ := by obtain ⟨r, rfl⟩ := h; exact EReal.coe_ne_bot r
/-- What is neither top nor bottom is real. -/
theorem isR_of {x : EReal} (h : x ≠ ⊤) (h' : x ≠ ⊥) : IsR x := ⟨x.toReal, (EReal.coe_toReal h h').symm⟩

/-- The exponential of the bottom is zero. -/
theorem exp_bot : Ideal.exp ⊥ = 0 := rfl
/-- The exponential of a real is the real exponential. -/
theorem exp_coe (r : ℝ) : Ideal.exp (r : EReal) = ((Real.exp r : ℝ) : EReal) := rfl

/-- The exponential of a value below the top over a real is a nonnegative real. -/
theorem exp_real {s m : EReal} (hs : s ≠ ⊤) (hm : IsR m) : ∃ r : ℝ, 0 ≤ r ∧ Ideal.exp (s - m) = r := by
  obtain ⟨b, rfl⟩ := hm
  induction s with
  | bot => exact ⟨0, le_rfl, by rw [EReal.bot_sub, exp_bot]; rfl⟩
  | top => exact absurd rfl hs
  | coe a => exact ⟨Real.exp (a - b), (Real.exp_pos _).le, by rw [← EReal.coe_sub, exp_coe]⟩

/-- Changing the reference of a weight. -/
theorem exp_shift {s m m' : EReal} (hs : s ≠ ⊤) (hm : IsR m) (hm' : IsR m') :
    Ideal.exp (s - m) * Ideal.exp (m - m') = Ideal.exp (s - m') := by
  obtain ⟨b, rfl⟩ := hm
  obtain ⟨b', rfl⟩ := hm'
  induction s with
  | bot => rw [EReal.bot_sub, EReal.bot_sub, exp_bot, zero_mul]
  | top => exact absurd rfl hs
  | coe a =>
    rw [← EReal.coe_sub, ← EReal.coe_sub, ← EReal.coe_sub, exp_coe, exp_coe, exp_coe, ← EReal.coe_mul, ← Real.exp_add]
    congr 2; ring

/-- A nonnegative real factor goes through a sum. -/
theorem sum_scale {ι : Type} (s : Finset ι) (f : ι → EReal) {c : ℝ} (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of nonnegative reals is one. -/
theorem sum_real {ι : Type} (s : Finset ι) (f : ι → EReal) (h : ∀ k ∈ s, ∃ r : ℝ, 0 ≤ r ∧ f k = r) : ∃ r : ℝ, 0 ≤ r ∧ ∑ k ∈ s, f k = r := by
  classical
  induction s using Finset.induction_on with
  | empty => exact ⟨0, le_rfl, by simp⟩
  | insert a s ha ih =>
    obtain ⟨r, hr, e⟩ := h a (Finset.mem_insert_self a s)
    obtain ⟨r', hr', e'⟩ := ih fun k hk => h k (Finset.mem_insert_of_mem hk)
    exact ⟨r + r', add_nonneg hr hr', by rw [Finset.sum_insert ha, e, e', EReal.coe_add]⟩

variable (S V : ℕ → EReal)

/-- Maximum of the first `n` scores. -/
def mx (n : ℕ) : EReal := (Finset.range n).sup S
/-- Denominator over the first `n` scores. -/
def dn (n : ℕ) : EReal := ∑ k ∈ Finset.range n, Ideal.exp (S k - mx S n)
/-- Weighted sum of values over the first `n` keys. -/
def ac (n : ℕ) : EReal := ∑ k ∈ Finset.range n, Ideal.exp (S k - mx S n) * V k
/-- Sum of the weights of block `j` of 64 keys, under the maximum of the first `n`. -/
def bl (n j : ℕ) : EReal := ∑ r ∈ Finset.range 64, Ideal.exp (S (j * 64 + r) - mx S n)

/-- The maximum after a further chunk: the larger of the earlier one and the chunk's. -/
theorem mx_add (n m : ℕ) : mx S (n + m) = max (mx S n) (Finset.univ.sup fun k : Fin m => S (n + k)) := by
  apply le_antisymm
  · refine Finset.sup_le fun k hk => ?_
    rcases lt_or_ge k n with h | h
    · exact le_max_of_le_left (Finset.le_sup (f := S) (Finset.mem_range.2 h))
    · refine le_max_of_le_right ?_
      have hk' := Finset.mem_range.1 hk
      have := Finset.le_sup (f := fun k : Fin m => S (n + k)) (Finset.mem_univ ⟨k - n, by omega⟩)
      simpa [Nat.add_sub_cancel' h] using this
  · refine max_le (Finset.sup_mono fun k hk => Finset.mem_range.2 (lt_of_lt_of_le (Finset.mem_range.1 hk) (Nat.le_add_right n m))) (Finset.sup_le fun k _ => ?_)
    exact Finset.le_sup (f := S) (Finset.mem_range.2 (by omega))

/-- The maximum over no keys is the bottom. -/
theorem mx_zero : mx S 0 = ⊥ := rfl
/-- The denominator over no keys is zero. -/
theorem dn_zero : dn S 0 = 0 := rfl
/-- The weighted sum over no keys is zero. -/
theorem ac_zero : ac S V 0 = 0 := rfl

variable (hS : ∀ k, S k ≠ ⊤) (h0 : S 0 ≠ ⊥)
include hS h0

/-- The maximum over at least one key is real. -/
theorem mx_real (n : ℕ) (hn : 0 < n) : IsR (mx S n) := by
  refine isR_of (ne_of_lt ?_) (ne_of_gt (lt_of_lt_of_le (bot_lt_iff_ne_bot.2 h0) (Finset.le_sup (f := S) (Finset.mem_range.2 hn))))
  exact (Finset.sup_lt_iff bot_lt_top).2 fun k _ => lt_top_iff_ne_top.2 (hS k)

/-- The correction factor is a nonnegative real. -/
theorem corr_real (n m : ℕ) (hm : 0 < m) : ∃ r : ℝ, 0 ≤ r ∧ Ideal.exp (mx S n - mx S m) = r := by
  refine exp_real ?_ (mx_real S hS h0 m hm)
  exact ne_of_lt ((Finset.sup_lt_iff bot_lt_top).2 fun k _ => lt_top_iff_ne_top.2 (hS k))

/-- A weight of a seen key is corrected to the new maximum. -/
theorem corr_term (n m k : ℕ) (hk : k < n) (hm : 0 < m) :
    Ideal.exp (S k - mx S n) * Ideal.exp (mx S n - mx S m) = Ideal.exp (S k - mx S m) :=
  exp_shift (hS k) (mx_real S hS h0 n (by omega)) (mx_real S hS h0 m hm)

/-- The denominator after a further chunk: the earlier one rescaled, plus the chunk's exponentials. -/
theorem dn_add (n m : ℕ) (hm : 0 < m) :
    dn S n * Ideal.exp (mx S n - mx S (n + m)) + ∑ k : Fin m, Ideal.exp (S (n + k) - mx S (n + m)) = dn S (n + m) := by
  obtain ⟨c, hc, e⟩ := corr_real S hS h0 n (n + m) (by omega)
  rw [dn, dn, e, sum_scale _ _ hc, Finset.sum_range_add, Fin.sum_univ_eq_sum_range (fun k => Ideal.exp (S (n + k) - mx S (n + m))) m]
  congr 1
  refine Finset.sum_congr rfl fun k hk => ?_
  rw [← e, corr_term S hS h0 n (n + m) k (Finset.mem_range.1 hk) (by omega)]

/-- The weighted sum after a further chunk: the earlier one rescaled, plus the chunk's part. -/
theorem ac_add (n m : ℕ) (hm : 0 < m) :
    ac S V n * Ideal.exp (mx S n - mx S (n + m)) + ∑ k : Fin m, Ideal.exp (S (n + k) - mx S (n + m)) * V (n + k) = ac S V (n + m) := by
  obtain ⟨c, hc, e⟩ := corr_real S hS h0 n (n + m) (by omega)
  rw [ac, ac, e, sum_scale _ _ hc, Finset.sum_range_add, Fin.sum_univ_eq_sum_range (fun k => Ideal.exp (S (n + k) - mx S (n + m)) * V (n + k)) m]
  congr 1
  refine Finset.sum_congr rfl fun k hk => ?_
  rw [← e, mul_right_comm, corr_term S hS h0 n (n + m) k (Finset.mem_range.1 hk) (by omega)]

/-- The sum of a block already passed is only rescaled by a further chunk. -/
theorem bl_corr (n m j : ℕ) (hj : j * 64 + 64 ≤ n) (hm : 0 < m) :
    bl S n j * Ideal.exp (mx S n - mx S (n + m)) = bl S (n + m) j := by
  obtain ⟨c, hc, e⟩ := corr_real S hS h0 n (n + m) (by omega)
  rw [bl, bl, e, sum_scale _ _ hc]
  refine Finset.sum_congr rfl fun k hk => ?_
  have := Finset.mem_range.1 hk
  rw [← e, corr_term S hS h0 n (n + m) _ (by omega) (by omega)]

omit h0 in
omit hS in
/-- Keys masked away change nothing. -/
theorem mx_mask (n m : ℕ) (hz : ∀ k, n ≤ k → S k = ⊥) (h : n ≤ m) : mx S m = mx S n := by
  obtain ⟨d, rfl⟩ := Nat.exists_eq_add_of_le h
  rw [mx_add]
  refine max_eq_left (Finset.sup_le fun k _ => ?_)
  rw [hz _ (Nat.le_add_right n k)]; exact bot_le

/-- A masked key has weight zero. -/
theorem w_mask (n m k : ℕ) (hz : S k = ⊥) (hm : 0 < m) : Ideal.exp (S k - mx S m) = 0 := by
  obtain ⟨r, e⟩ := mx_real S hS h0 m hm
  rw [hz, e, EReal.bot_sub, exp_bot]

/-- Masked keys leave the denominator as it is. -/
theorem dn_mask (n m : ℕ) (hz : ∀ k, n ≤ k → S k = ⊥) (h : n ≤ m) (hm : 0 < m) : dn S m = dn S n := by
  have e := mx_mask S n m hz h
  have w := fun k (hk : n ≤ k) => w_mask S hS h0 n m k (hz k hk) hm
  obtain ⟨d, rfl⟩ := Nat.exists_eq_add_of_le h
  rw [dn, Finset.sum_range_add, Finset.sum_eq_zero (fun k _ => w _ (Nat.le_add_right n k)), add_zero, e]; rfl

/-- Masked keys leave the weighted sum as it is. -/
theorem ac_mask (n m : ℕ) (hz : ∀ k, n ≤ k → S k = ⊥) (h : n ≤ m) (hm : 0 < m) : ac S V m = ac S V n := by
  have e := mx_mask S n m hz h
  have w := fun k (hk : n ≤ k) => w_mask S hS h0 n m k (hz k hk) hm
  obtain ⟨d, rfl⟩ := Nat.exists_eq_add_of_le h
  rw [ac, Finset.sum_range_add, Finset.sum_eq_zero (s := Finset.range d) (fun k _ => by rw [w _ (Nat.le_add_right n k), zero_mul]), add_zero, e]; rfl

/-- The denominator is a positive real. -/
theorem dn_pos (n : ℕ) (hn : 0 < n) : ∃ r : ℝ, 0 < r ∧ dn S n = r := by
  obtain ⟨r, hr, e⟩ := sum_real (Finset.range n) (fun k => Ideal.exp (S k - mx S n)) fun k _ => exp_real (hS k) (mx_real S hS h0 n hn)
  refine ⟨r, lt_of_le_of_ne hr fun hz => ?_, e⟩
  obtain ⟨b, eb⟩ := mx_real S hS h0 n hn
  obtain ⟨a, ea⟩ := isR_of (hS 0) h0
  have hle : Ideal.exp (S 0 - mx S n) ≤ ∑ k ∈ Finset.range n, Ideal.exp (S k - mx S n) :=
    Finset.single_le_sum (f := fun k => Ideal.exp (S k - mx S n)) (fun k _ => by
      obtain ⟨q, hq, eq⟩ := exp_real (hS k) (mx_real S hS h0 n hn)
      show 0 ≤ Ideal.exp (S k - mx S n)
      rw [eq]; exact_mod_cast hq) (Finset.mem_range.2 hn)
  rw [e, ← hz, ea, eb, ← EReal.coe_sub, exp_coe] at hle
  exact absurd hle (not_le.2 (by exact_mod_cast Real.exp_pos _))

/-- Dividing by the denominator goes through the weighted sum. -/
theorem div_ac (n : ℕ) (hn : 0 < n) : Ideal.div (ac S V n) (dn S n) = ∑ k ∈ Finset.range n, Ideal.div (Ideal.exp (S k - mx S n)) (dn S n) * V k := by
  obtain ⟨r, hr, e⟩ := dn_pos S hS h0 n hn
  rw [e, Ideal.div_coe hr.ne', ac, sum_scale _ _ (by positivity)]
  refine Finset.sum_congr rfl fun k _ => ?_
  rw [Ideal.div_coe hr.ne', mul_right_comm]

/-- Dividing by the denominator goes through a block's sum. -/
theorem div_bl (n j : ℕ) (hn : 0 < n) : Ideal.div (bl S n j) (dn S n) = ∑ r ∈ Finset.range 64, Ideal.div (Ideal.exp (S (j * 64 + r) - mx S n)) (dn S n) := by
  obtain ⟨r, hr, e⟩ := dn_pos S hS h0 n hn
  rw [e, Ideal.div_coe hr.ne', bl, sum_scale _ _ (by positivity)]
  refine Finset.sum_congr rfl fun k _ => ?_
  rw [Ideal.div_coe hr.ne']

/-- A masked block's sum vanishes. -/
theorem bl_mask (n j : ℕ) (hz : ∀ k, j * 64 ≤ k → S k = ⊥) (hn : 0 < n) : bl S n j = 0 :=
  Finset.sum_eq_zero fun k _ => w_mask S hS h0 n n _ (hz _ (Nat.le_add_right _ _)) hn

end Cert.Row
end
-- ==== Proof.Spec2.lean ====
/- The specification of the attention and of the gate's loss, over the projected heads of `Spec`. -/
module
public import proofs.«01_k».proof.Proof.Row
@[expose] public section
noncomputable section
namespace Cert.Spec
open Idealize.ShloMosaic Cert.Row
variable (P : In)

/-- Masked scaled score of query `q` against key `k` of batch `b`, query head `n`. -/
def score (b n q k : ℕ) : EReal :=
  if k ≤ q then (∑ d : Fin 128, qr P (b * 2048 + q) n d * kr P (b * 2048 + k) (n / 2) d) * isd else ⊥
/-- Softmax weight of key `k`. -/
def prob (b n q k : ℕ) : EReal :=
  Ideal.div (Ideal.exp (score P b n q k - mx (score P b n q) 2048)) (dn (score P b n q) 2048)
/-- Attention of query `q`. -/
def attn (b n q d : ℕ) : EReal := ∑ k ∈ Finset.range 2048, prob P b n q k * vv P (b * 2048 + k) (n / 2) d
/-- The attention's output projection. -/
def outp (t j : ℕ) : EReal := lin 2048 (fun c => attn P (t / 2048) (c / 128) (t % 2048) (c % 128)) P.wo j
/-- Weight of a block of 64 keys. -/
def psum (b n q j : ℕ) : EReal := ∑ r ∈ Finset.range 64, prob P b n q (j * 64 + r)
/-- The larger weight of the two heads of a group. -/
def m1d (b g q j : ℕ) : EReal := max (psum P b (g * 2) q j) (psum P b (g * 2 + 1) q j)
/-- The target distribution over blocks. -/
def gt (b g q j : ℕ) : EReal := Ideal.div (m1d P b g q j) ((∑ i : Fin 32, m1d P b g q i) + tiny)
/-- Masked gate logit. -/
def logit (b g q j : ℕ) : EReal :=
  if j * 64 ≤ q then (∑ d : Fin 128, qg P (b * 2048 + q) g d * kg P (b * 32 + j) g d) * isd else ⊥
/-- Logarithm of the softmax of a row of 32 entries. -/
def lsm (x : ℕ → EReal) (j : ℕ) : EReal :=
  (x j - Finset.univ.sup fun k : Fin 32 => x k) - Ideal.log (∑ k : Fin 32, Ideal.exp (x k - Finset.univ.sup fun k : Fin 32 => x k))
/-- One term of the divergence of the target `g` from log-probability `s`. -/
def klT (g s : EReal) : EReal := if 0 < g then g * (Ideal.log (if 0 < g then g else 1) - s) else 0
/-- One term of the loss. -/
def kl (b g q j : ℕ) : EReal := klT (gt P b g q j) (lsm (logit P b g q) j)
/-- A tile's part of the loss. -/
def klTile (b g a : ℕ) : EReal := ∑ r : Fin 512, ∑ j : Fin 32, kl P b g (a * 512 + r) j
end Cert.Spec
end
-- ==== Proof.Pay1.lean ====
/- The flash kernel's values, read at an index. -/
module
public import proofs.«01_k».proof.Proof.Gen.KernelIdeal.Skeleton
public import proofs.«01_k».proof.Proof.Pay0
public import proofs.«01_k».proof.Proof.Spec2
@[expose] public section
set_option maxRecDepth 16384
noncomputable section
namespace Cert.KV
open Cert.KernelIdeal Cert.KernelIdeal.Gen Idealize.ShloMosaic Idealize.ShloMosaic.TcCoe Cert.Spec
variable [Cert.KernelIdeal.Facts]

/-- The mask constant is the bottom. -/
theorem mask_eq : (Named.named Cert.KernelIdeal.κ "mask" 0xF149F2CA#32 : Ideal .f32) = ⊥ :=
  IdealRules.named_const.ideal_named_scalar _ _ _ _ rfl
/-- The score factor. -/
theorem isd_eq : (Named.named Cert.KernelIdeal.κ "inv_sqrt_d" 0x3DB504F3#32 : Ideal .f32) = isd :=
  IdealRules.named_const.ideal_named_scalar _ _ _ _ rfl

/-- Scaled scores of one chunk of keys. -/
theorem pay2_e (v4 : FVec Ideal S1024x128 .bf16) (kc : Vec Ideal S1x1x512x128 .bf16) (r : Fin 1024) (k : Fin 512) :
    k1_pay2 v4 kc (ix2 r k) = (∑ d : Fin 128, v4 (ix2 r d) * kc (ix4 0 0 k d)) * isd := by
  pointwise [k1_pay2, isd_eq]

/-- The running maximum. -/
theorem pay3_e (v4 : FVec Ideal S1024x128 .bf16) (m : FVec Ideal S1024x1 .f32) (kc : Vec Ideal S1x1x512x128 .bf16) (r : Fin 1024) (z : Fin 1) :
    k1_pay3 v4 m kc (ix2 r z) = max (m (ix2 r 0)) (Finset.univ.sup fun k : Fin 512 => k1_pay2 v4 kc (ix2 r k)) := by
  obtain rfl := Subsingleton.elim z 0
  unfold k1_pay3
  generalize k1_pay2 v4 kc = X
  pointwise []
  rw [bot_bits]; rfl

/-- The correction factor. -/
theorem pay4_e (v4 : FVec Ideal S1024x128 .bf16) (m : FVec Ideal S1024x1 .f32) (kc : Vec Ideal S1x1x512x128 .bf16) (r : Fin 1024) (z : Fin 1) :
    k1_pay4 v4 m kc (ix2 r z) = Ideal.exp (m (ix2 r 0) - k1_pay3 v4 m kc (ix2 r 0)) := by
  obtain rfl := Subsingleton.elim z 0
  unfold k1_pay4
  generalize k1_pay3 v4 m kc = X
  pointwise []

/-- The unnormalised weights of a chunk. -/
theorem pay5_e (v4 : FVec Ideal S1024x128 .bf16) (m : FVec Ideal S1024x1 .f32) (kc : Vec Ideal S1x1x512x128 .bf16) (r : Fin 1024) (k : Fin 512) :
    k1_pay5 v4 m kc (ix2 r k) = Ideal.exp (k1_pay2 v4 kc (ix2 r k) - k1_pay3 v4 m kc (ix2 r 0)) := by
  unfold k1_pay5
  generalize k1_pay3 v4 m kc = X
  generalize k1_pay2 v4 kc = Y
  pointwise []

/-- The running denominator. -/
theorem pay7_e (v4 : FVec Ideal S1024x128 .bf16) (m l : FVec Ideal S1024x1 .f32) (kc : Vec Ideal S1x1x512x128 .bf16) (r : Fin 1024) (z : Fin 1) :
    k1_pay7 v4 m l kc (ix2 r z) = l (ix2 r 0) * k1_pay4 v4 m kc (ix2 r 0) + ∑ k : Fin 512, k1_pay5 v4 m kc (ix2 r k) := by
  obtain rfl := Subsingleton.elim z 0
  unfold k1_pay7
  generalize k1_pay4 v4 m kc = X
  generalize k1_pay5 v4 m kc = Y
  pointwise []

/-- The running weighted sum of values. -/
theorem pay8_e (v4 : FVec Ideal S1024x128 .bf16) (m : FVec Ideal S1024x1 .f32) (a : FVec Ideal S1024x128 .f32) (kc vc : Vec Ideal S1x1x512x128 .bf16) (r : Fin 1024) (d : Fin 128) :
    k1_pay8 v4 m a kc vc (ix2 r d) = a (ix2 r d) * k1_pay4 v4 m kc (ix2 r 0) + ∑ k : Fin 512, k1_pay5 v4 m kc (ix2 r k) * vc (ix4 0 0 k d) := by
  unfold k1_pay8 k1_pay6
  generalize k1_pay4 v4 m kc = X
  generalize k1_pay5 v4 m kc = Y
  pointwise []

/-- The chunk's weights against the block indicator. -/
theorem pay9_e (v4 : FVec Ideal S1024x128 .bf16) (v34 : FVec Ideal S512x8 .bf16) (m : FVec Ideal S1024x1 .f32) (kc : Vec Ideal S1x1x512x128 .bf16) (r : Fin 1024) (c : Fin 8) :
    k1_pay9 v4 v34 m kc (ix2 r c) = ∑ k : Fin 512, k1_pay5 v4 m kc (ix2 r k) * v34 (ix2 k c) := by
  unfold k1_pay9 k1_pay6
  generalize k1_pay5 v4 m kc = Y
  pointwise []

/-- The number of the block of a key, as the kernel's words compute it. -/
theorem blk_word : ∀ k : Fin 512, (Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 k.val) 64#32) 0#32))
            (IntOp.subi (IntOp.divsi ArithUnit.vector (BitVec.ofNat 32 k.val) 64#32) 1#32)
            (IntOp.divsi ArithUnit.vector (BitVec.ofNat 32 k.val) 64#32) : BitVec 32) = BitVec.ofNat 32 (k.val / 64) := by
  decide +kernel

/-- Equality of two small words, as a bit. -/
theorem eq_word (a b : ℕ) (ha : a < 2 ^ 32) (hb : b < 2 ^ 32) :
    IntOp.cmpi CmpIPredicate.eq (BitVec.ofNat 32 a) (BitVec.ofNat 32 b) = if a = b then 1#1 else 0#1 := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases h : a = b
  · subst h; simp [IntOp.cmpi]
  · have h' := mt this.1 h
    rw [if_neg h]
    show BitVec.ofBool (BitVec.ofNat 32 a == BitVec.ofNat 32 b) = 0#1
    rw [beq_eq_false_iff_ne.2 h']; rfl

/-- Order of two small words, as a bit. -/
theorem le_word (a b : ℕ) (ha : a < 2 ^ 31) (hb : b < 2 ^ 31) :
    IntOp.cmpi CmpIPredicate.sle (BitVec.ofNat 32 a) (BitVec.ofNat 32 b) = if a ≤ b then 1#1 else 0#1 := by
  have e : ∀ n : ℕ, n < 2 ^ 31 → (BitVec.ofNat 32 n).toInt = n := by
    intro n hn
    have hm : (BitVec.ofNat 32 n).toNat = n := by rw [BitVec.toNat_ofNat]; exact Nat.mod_eq_of_lt (by omega)
    rw [BitVec.toInt_eq_toNat_of_lt (by rw [hm]; omega), hm]
  show BitVec.ofBool (BitVec.sle (BitVec.ofNat 32 a) (BitVec.ofNat 32 b)) = _
  rw [BitVec.sle, e a ha, e b hb]
  by_cases h : a ≤ b
  · rw [if_pos h, decide_eq_true (by exact_mod_cast h)]; rfl
  · rw [if_neg h, decide_eq_false (by exact_mod_cast h)]; rfl

/-- Selection by an order bit. -/
theorem sel_le (a b : ℕ) (ha : a < 2 ^ 31) (hb : b < 2 ^ 31) (x y : EReal) :
    Scalar.select (IntOp.cmpi CmpIPredicate.sle (BitVec.ofNat 32 a) (BitVec.ofNat 32 b)) x y = if a ≤ b then x else y := by
  rw [le_word a b ha hb]
  by_cases h : a ≤ b
  · rw [if_pos h, if_pos h]; rfl
  · rw [if_neg h, if_neg h]; rfl

/-- The block indicator. -/
theorem pay35_e (k : Fin 512) (c : Fin 8) : (k1_pay35 : FVec Ideal S512x8 .bf16) (ix2 k c) = if k.val / 64 = c.val then 1 else 0 := by
  pointwise [k1_pay35]
  rw [blk_word, eq_word _ _ (by omega) (by omega)]
  by_cases h : k.val / 64 = c.val
  · rw [if_pos h, if_pos h.symm]; simp [FloatOps.sitofp]
  · rw [if_neg h, if_neg (Ne.symm h)]; simp [FloatOps.sitofp]

/-- A selected block column. -/
theorem sel_word (a : ℕ) (ha : a < 4) (j : Fin 32) (c : ℕ) (hc : c < 8) (x : EReal) :
    Scalar.select (IntOp.cmpi CmpIPredicate.eq (BitVec.ofNat 32 j.val) (Scalar.addi (Scalar.muli (BitVec.ofNat 32 a) 8#32) (BitVec.ofNat 32 c))) x 0
      = if j.val = a * 8 + c then x else 0 := by
  have : Scalar.addi (Scalar.muli (BitVec.ofNat 32 a) 8#32) (BitVec.ofNat 32 c) = BitVec.ofNat 32 (a * 8 + c) := by
    interval_cases a <;> interval_cases c <;> rfl
  rw [this, eq_word _ _ (by omega) (by omega)]
  by_cases h : j.val = a * 8 + c
  · rw [if_pos h, if_pos h]; rfl
  · rw [if_neg h, if_neg h]; rfl

/-- The eight selected columns are the block's own column. -/
theorem sel_cols (a : ℕ) (ha : a < 4) (j : Fin 32) (b : Fin 8 → EReal) :
    (if j.val = a * 8 + 0 then b 0 else 0) + (if j.val = a * 8 + 1 then b 1 else 0) + (if j.val = a * 8 + 2 then b 2 else 0)
      + (if j.val = a * 8 + 3 then b 3 else 0) + (if j.val = a * 8 + 4 then b 4 else 0) + (if j.val = a * 8 + 5 then b 5 else 0)
      + (if j.val = a * 8 + 6 then b 6 else 0) + (if j.val = a * 8 + 7 then b 7 else 0)
      = if j.val / 8 = a then b ⟨j.val % 8, Nat.mod_lt _ (by decide)⟩ else 0 := by
  obtain ⟨j, hj⟩ := j
  dsimp only
  interval_cases a <;> interval_cases j <;> simp <;> rfl

/-- The update of the block sums by one chunk. -/
theorem pay40_e (p : FVec Ideal S1024x32 .f32) (a : ℕ) (ha : a < 4) (co : FVec Ideal S1024x1 .f32) (b : FVec Ideal S1024x8 .f32) (r : Fin 1024) (j : Fin 32) :
    k1_pay40 p (BitVec.ofNat 32 a) co b (iota .tc S1024x32 32 [1] iota_S1024x32_d1_w32)
     (k1_pay14 (BitVec.ofNat 32 a) b (iota .tc S1024x32 32 [1] iota_S1024x32_d1_w32) k1_pay10 (cmpi .eq (iota .tc S1024x32 32 [1] iota_S1024x32_d1_w32) (broadcast S1024x32 (Scalar.addi (Scalar.muli (BitVec.ofNat 32 a) 8#32) 0#32)))
       (broadcastTo S1024x32 (shapeCast S1024x1 (shapeCast S1024x1 (shapeCast S1024 (extractStridedSlice S1024x1 ![0, 0] b slices_S1024x8_o0_0_S1024x1) shapeCasts_S1024x1_S1024) shapeCasts_S1024_S1024x1) shapeCasts_S1024x1_S1024x1) broadcasts_S1024x1_S1024x32) k1_pay13)
     (k1_pay15 (BitVec.ofNat 32 a) (iota .tc S1024x32 32 [1] iota_S1024x32_d1_w32)) (k1_pay16 b) k1_pay17 (ix2 r j)
     = p (ix2 r j) * co (ix2 r 0) + if j.val / 8 = a then b (ix2 r ⟨j.val % 8, Nat.mod_lt _ (by decide)⟩) else 0 := by
  pointwise [k1_pay40, k1_pay14, k1_pay10, k1_pay13, k1_pay15, k1_pay16, k1_pay17]
  rw [sel_word a ha j 0 (by decide), sel_word a ha j 1 (by decide), sel_word a ha j 2 (by decide), sel_word a ha j 3 (by decide),
    sel_word a ha j 4 (by decide), sel_word a ha j 5 (by decide), sel_word a ha j 6 (by decide), sel_word a ha j 7 (by decide),
    sel_cols a ha j fun c => b (ix2 r c)]

/-- The tile's query rows: head `2g` then head `2g+1`. -/
theorem pay34_e (x0 : Vec Ideal S1x1x512x256 .bf16) (r : Fin 1024) (d : Fin 128) :
    k1_pay34 x0 (ix2 r d) = x0 (ix4 0 0 ⟨r.val % 512, Nat.mod_lt _ (by decide)⟩ ⟨r.val / 512 * 128 + d.val, by omega⟩) := by
  pointwise [k1_pay34]
  split
  · next h => congr 2 <;> exact Fin.ext (by dsimp only; omega)
  · next h => congr 2 <;> exact Fin.ext (by dsimp only; omega)

/-- The row within the tile, as the kernel's words compute it. -/
theorem row_word : ∀ r : Fin 1024, (Scalar.select
          (IntOp.andi
            (IntOp.xori
              (IntOp.cmpi CmpIPredicate.slt
                (IntOp.remsi ArithUnit.vector (BitVec.ofNat 32 r.val)
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector (BitVec.ofNat 32 r.val)
                (Scalar.select (Scalar.cmpi CmpIPredicate.eq 512#32 0#32) 1#32 512#32))
              0#32))
          (IntOp.addi
            (IntOp.remsi ArithUnit.vector (BitVec.ofNat 32 r.val)
              (Scalar.select (Scalar.cmpi CmpIPredicate.eq 512#32 0#32) 1#32 512#32))
            (Scalar.select (Scalar.cmpi CmpIPredicate.eq 512#32 0#32) 1#32 512#32))
          (IntOp.remsi ArithUnit.vector (BitVec.ofNat 32 r.val)
            (Scalar.select (Scalar.cmpi CmpIPredicate.eq 512#32 0#32) 1#32 512#32)) : BitVec 32) = BitVec.ofNat 32 (r.val % 512) := by
  decide +kernel

/-- Masked scores of the diagonal chunk. -/
theorem pay43_e (v4 : FVec Ideal S1024x128 .bf16) (kc : Vec Ideal S1x1x512x128 .bf16) (r : Fin 1024) (k : Fin 512) :
    k1_pay43 v4 kc (ix2 r k) = if k.val ≤ r.val % 512 then (∑ d : Fin 128, v4 (ix2 r d) * kc (ix4 0 0 k d)) * isd else ⊥ := by
  pointwise [k1_pay43, isd_eq, mask_eq]
  rw [row_word, sel_le _ _ (by omega) (by omega)]

/-- The final maximum. -/
theorem pay44_e (v4 : FVec Ideal S1024x128 .bf16) (m : FVec Ideal S1024x1 .f32) (kc : Vec Ideal S1x1x512x128 .bf16) (r : Fin 1024) (z : Fin 1) :
    k1_pay44 v4 m kc (ix2 r z) = max (m (ix2 r 0)) (Finset.univ.sup fun k : Fin 512 => k1_pay43 v4 kc (ix2 r k)) := by
  obtain rfl := Subsingleton.elim z 0
  unfold k1_pay44
  generalize k1_pay43 v4 kc = X
  pointwise []
  rw [bot_bits]; rfl

/-- The final correction factor. -/
theorem pay45_e (m M : FVec Ideal S1024x1 .f32) (r : Fin 1024) (z : Fin 1) :
    k1_pay45 m M (ix2 r z) = Ideal.exp (m (ix2 r 0) - M (ix2 r 0)) := by
  obtain rfl := Subsingleton.elim z 0
  pointwise [k1_pay45]

/-- The weights of the diagonal chunk. -/
theorem pay46_e (S : FVec Ideal S1024x512 .f32) (M : FVec Ideal S1024x1 .f32) (r : Fin 1024) (k : Fin 512) :
    k1_pay46 S M (ix2 r k) = Ideal.exp (S (ix2 r k) - M (ix2 r 0)) := by
  pointwise [k1_pay46]

/-- The denominator. -/
theorem pay48_e (m l M : FVec Ideal S1024x1 .f32) (S : FVec Ideal S1024x512 .f32) (r : Fin 1024) (z : Fin 1) :
    k1_pay48 m l S M (ix2 r z) = l (ix2 r 0) * Ideal.exp (m (ix2 r 0) - M (ix2 r 0)) + ∑ k : Fin 512, Ideal.exp (S (ix2 r k) - M (ix2 r 0)) := by
  obtain rfl := Subsingleton.elim z 0
  pointwise [k1_pay48, k1_pay45, k1_pay46]

/-- The weighted sum of values. -/
theorem pay49_e (m M : FVec Ideal S1024x1 .f32) (a : FVec Ideal S1024x128 .f32) (vc : Vec Ideal S1x1x512x128 .bf16) (S : FVec Ideal S1024x512 .f32) (r : Fin 1024) (d : Fin 128) :
    k1_pay49 m a (k1_pay42 vc) S M (ix2 r d)
      = a (ix2 r d) * Ideal.exp (m (ix2 r 0) - M (ix2 r 0)) + ∑ k : Fin 512, Ideal.exp (S (ix2 r k) - M (ix2 r 0)) * vc (ix4 0 0 k d) := by
  pointwise [k1_pay49, k1_pay45, k1_pay46, k1_pay47, k1_pay42]

/-- The diagonal chunk's block sums. -/
theorem pay50_e (v34 : FVec Ideal S512x8 .bf16) (M : FVec Ideal S1024x1 .f32) (S : FVec Ideal S1024x512 .f32) (r : Fin 1024) (c : Fin 8) :
    k1_pay50 v34 S M (ix2 r c) = ∑ k : Fin 512, Ideal.exp (S (ix2 r k) - M (ix2 r 0)) * v34 (ix2 k c) := by
  pointwise [k1_pay50, k1_pay46, k1_pay47]

/-- The stored attention: both heads side by side, divided by the denominator. -/
theorem pay57_e (l : FVec Ideal S1024x1 .f32) (a : FVec Ideal S1024x128 .f32) (y z : Fin 1) (r : Fin 512) (j : Fin 256) :
    k1_pay57 l a (ix4 y z r j) = Ideal.div (a (ix2 ⟨j.val / 128 * 512 + r.val, by omega⟩ ⟨j.val % 128, Nat.mod_lt _ (by decide)⟩)) (l (ix2 ⟨j.val / 128 * 512 + r.val, by omega⟩ 0)) := by
  pointwise [k1_pay57]
  split
  · next h => congr 3 <;> exact Fin.ext (by dsimp only; omega)
  · next h => congr 3 <;> exact Fin.ext (by dsimp only; omega)

/-- A head's normalised block sum. -/
def blkF (p : FVec Ideal S1024x32 .f32) (a : ℕ) (co l : FVec Ideal S1024x1 .f32) (b : FVec Ideal S1024x8 .f32) (r : Fin 1024) (j : Fin 32) : EReal :=
  Ideal.div (p (ix2 r j) * co (ix2 r 0) + if j.val / 8 = a then b (ix2 r ⟨j.val % 8, Nat.mod_lt _ (by decide)⟩) else 0) (l (ix2 r 0))

/-- The larger of the two heads' block sums. -/
def blkM (p : FVec Ideal S1024x32 .f32) (a : ℕ) (co l : FVec Ideal S1024x1 .f32) (b : FVec Ideal S1024x8 .f32) (r : Fin 512) (j : Fin 32) : EReal :=
  max (blkF p a co l b ⟨r.val, by omega⟩ j) (blkF p a co l b ⟨512 + r.val, by omega⟩ j)

/-- The block sums, the larger of the two heads, normalised over blocks. -/
theorem pay58_e (p : FVec Ideal S1024x32 .f32) (a : ℕ) (ha : a < 4) (co l M : FVec Ideal S1024x1 .f32) (v34 : FVec Ideal S512x8 .bf16) (S : FVec Ideal S1024x512 .f32) (r : Fin 512) (j : Fin 32) :
    k1_pay58 (BitVec.ofNat 32 a) p co l (k1_pay50 v34 S M) (iota .tc S1024x32 32 [1] iota_S1024x32_d1_w32)
      (k1_pay54 (BitVec.ofNat 32 a) (k1_pay50 v34 S M) (iota .tc S1024x32 32 [1] iota_S1024x32_d1_w32) (k1_pay51 (BitVec.ofNat 32 a) v34 S M) (k1_pay52 (BitVec.ofNat 32 a)) (k1_pay53 v34 S M))
      (k1_pay55 (BitVec.ofNat 32 a) (iota .tc S1024x32 32 [1] iota_S1024x32_d1_w32)) (k1_pay56 (k1_pay50 v34 S M)) (ix2 r j)
      = Ideal.div (blkM p a co l (k1_pay50 v34 S M) r j) ((∑ j' : Fin 32, blkM p a co l (k1_pay50 v34 S M) r j') + tiny) := by
  unfold k1_pay51 k1_pay53
  generalize k1_pay50 v34 S M = b
  pointwise [k1_pay58, k1_pay54, k1_pay52, k1_pay55, k1_pay56]
  have e : ∀ (rr : Fin 1024) (jj : Fin 32), _ := fun rr jj => sel_cols a ha jj fun c => b (ix2 rr c)
  have w0 := fun (jj : Fin 32) x => sel_word a ha jj 0 (by decide) x
  have w1 := fun (jj : Fin 32) x => sel_word a ha jj 1 (by decide) x
  have w2 := fun (jj : Fin 32) x => sel_word a ha jj 2 (by decide) x
  have w3 := fun (jj : Fin 32) x => sel_word a ha jj 3 (by decide) x
  have w4 := fun (jj : Fin 32) x => sel_word a ha jj 4 (by decide) x
  have w5 := fun (jj : Fin 32) x => sel_word a ha jj 5 (by decide) x
  have w6 := fun (jj : Fin 32) x => sel_word a ha jj 6 (by decide) x
  have w7 := fun (jj : Fin 32) x => sel_word a ha jj 7 (by decide) x
  simp only [w0, w1, w2, w3, w4, w5, w6, w7, e]
  rfl

/-- Logarithm of the softmax of a row of 32 entries. -/
def lsmF (x : Fin 32 → EReal) (j : Fin 32) : EReal :=
  (x j - Finset.univ.sup x) - Ideal.log (∑ k : Fin 32, Ideal.exp (x k - Finset.univ.sup x))

/-- A masked gate logit of the tile. -/
def logitF (a : ℕ) (x3 : Vec Ideal S1x1x512x128 .bf16) (x4 : Vec Ideal S1x1x32x128 .bf16) (r : Fin 512) (j : Fin 32) : EReal :=
  if j.val * 64 ≤ a * 512 + r.val then (∑ d : Fin 128, x3 (ix4 0 0 r d) * x4 (ix4 0 0 j d)) * isd else ⊥

/-- The sum of the divergences of a tile, in every lane. -/
theorem pay60_e (a : ℕ) (ha : a < 4) (g : FVec Ideal S512x32 .f32) (x3 : Vec Ideal S1x1x512x128 .bf16) (x4 : Vec Ideal S1x1x32x128 .bf16) (u v : Fin 1) (j : Fin 128) :
    k1_pay1 (k1_pay60 (BitVec.ofNat 32 a) g (k1_pay59 x3) x4) (ix3 u v j)
      = ∑ r : Fin 512, ∑ k : Fin 32, klT (g (ix2 r k)) (lsmF (logitF a x3 x4 r) k) := by
  pointwise [k1_pay1, k1_pay60, k1_pay59, isd_eq, mask_eq]
  have hw : ∀ (r : Fin 512) (k : Fin 32) (x : EReal), Scalar.select
        (IntOp.cmpi CmpIPredicate.sle (IntOp.muli (BitVec.ofNat 32 k.val) 64#32)
          (IntOp.addi (BitVec.ofNat 32 r.val) (Scalar.muli (BitVec.ofNat 32 a) 512#32))) x ⊥
        = if k.val * 64 ≤ a * 512 + r.val then x else ⊥ := by
    intro r k x
    have e1 : IntOp.muli (BitVec.ofNat 32 k.val) 64#32 = BitVec.ofNat 32 (k.val * 64) := (BitVec.ofNat_mul ..).symm
    have e2 : IntOp.addi (BitVec.ofNat 32 r.val) (Scalar.muli (BitVec.ofNat 32 a) 512#32) = BitVec.ofNat 32 (r.val + a * 512) := by
      rw [BitVec.ofNat_add, BitVec.ofNat_mul]; rfl
    rw [e1, e2, sel_le _ _ (by omega) (by omega), Nat.add_comm]
  simp only [hw, bot_bits]
  rfl
end Cert.KV
-- ==== Proof.Flash.lean ====
/- The flash kernel's run, as its stored vectors of the blocks it reads. -/
module
public import proofs.«01_k».proof.Proof.Gen.KernelIdeal.Frame
public import proofs.«01_k».proof.Proof.Pay1
public import Idealize.ShloMosaic.Lib.Pipeline.ValueKit.Point
public import Idealize.ShloMosaic.Lib.LoopRemainder
@[expose] public section
set_option maxRecDepth 16384
noncomputable section
namespace Cert.KV
open Cert.KernelIdeal Cert.KernelIdeal.Gen Idealize.ShloMosaic Idealize.ShloMosaic.TcCoe Cert.Spec

/-- The carried values: running maximum, denominator, weighted sum, block sums. -/
abbrev St := FVec Ideal S1024x1 .f32 × FVec Ideal S1024x1 .f32 × FVec Ideal S1024x128 .f32 × FVec Ideal S1024x32 .f32

/-- Chunk `n` of 512 rows of a block of 2048 rows. -/
def chunkOf (x : Vec Ideal S1x1x2048x128 .bf16) (off : Fin 4 → ℕ) (h : ∀ a, off a + S1x1x512x128.size a ≤ S1x1x2048x128.size a) : Vec Ideal S1x1x512x128 .bf16 :=
  View.ld x (Rect.unit (s := S1x1x2048x128) off S1x1x512x128.size h)

/-- One trip of the chunk loop. -/
def stepF (a : ℕ) (v4 : FVec Ideal S1024x128 .bf16) (kc vc : Vec Ideal S1x1x512x128 .bf16) (s : St) : St :=
  (k1_pay3 v4 s.1 kc, k1_pay7 v4 s.1 s.2.1 kc, k1_pay8 v4 s.1 s.2.2.1 kc vc,
   k1_pay40 s.2.2.2 (BitVec.ofNat 32 a) (k1_pay4 v4 s.1 kc) (k1_pay9 v4 k1_pay35 s.1 kc) (iota .tc S1024x32 32 [1] iota_S1024x32_d1_w32)
     (k1_pay14 (BitVec.ofNat 32 a) (k1_pay9 v4 k1_pay35 s.1 kc) (iota .tc S1024x32 32 [1] iota_S1024x32_d1_w32) k1_pay10 (cmpi .eq (iota .tc S1024x32 32 [1] iota_S1024x32_d1_w32) (broadcast S1024x32 (Scalar.addi (Scalar.muli (BitVec.ofNat 32 a) 8#32) 0#32)))
       (broadcastTo S1024x32 (shapeCast S1024x1 (shapeCast S1024x1 (shapeCast S1024 (extractStridedSlice S1024x1 ![0, 0] (k1_pay9 v4 k1_pay35 s.1 kc) slices_S1024x8_o0_0_S1024x1) shapeCasts_S1024x1_S1024) shapeCasts_S1024_S1024x1) shapeCasts_S1024x1_S1024x1) broadcasts_S1024x1_S1024x32) k1_pay13)
     (k1_pay15 (BitVec.ofNat 32 a) (iota .tc S1024x32 32 [1] iota_S1024x32_d1_w32)) (k1_pay16 (k1_pay9 v4 k1_pay35 s.1 kc)) k1_pay17)

/-- The loop counter as a word. -/
theorem iv_eq (k : ℕ) : Scf.iv 0#32 1#32 k = BitVec.ofNat 32 k := by
  simp [Scf.iv]

/-- A trip of the run is a step. -/
theorem trip_eq (c : Dev nD) (i : grid1.Coords) (arg2 : Memref sig .tc .vmem S1x1x512x256 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x32x128 .bf16) (harg6 : arg6.IsWhole) (arg7 : Memref sig .tc .vmem S1x1x512x256 .bf16) (harg7 : arg7.IsWhole) (arg8 : Memref sig .tc .vmem S1x1x128 .f32) (harg8 : arg8.IsWhole) (arg1 : BitVec 32) (v4 : FVec Ideal S1024x128 .bf16) (v35 : FVec Ideal S1024x1 .f32) (v36 : FVec Ideal S1024x1 .f32) (v37 : FVec Ideal S1024x128 .f32) (v38 : FVec Ideal S1024x32 .f32) (v39 : BitVec 32) (x1 x2 : Vec Ideal S1x1x2048x128 .bf16) (k : Fin (k1_t1_loop i).trips) (acc : St) :
  tripR_k1_t1 (F := Ideal) Variants.none c none i arg2 harg2 arg3 harg3 arg4 harg4 arg5 harg5 arg6 harg6 arg7 harg7 arg8 harg8 arg1 v4 k1_pay35 v35 v36 v37 v38 0#32 v39 1#32 (harg3.unread x1) (harg4.unread x2) k acc
   = stepF k v4 (chunkOf x1 (k1_off1 i k) (k1_off1_inb i k)) (chunkOf x2 (k1_off1 i k) (k1_off1_inb i k)) acc := by
  have e1 : View.readAt (Elt Ideal) arg3.view (Rect.unit (s := S1x1x2048x128) (k1_off1 i k) S1x1x512x128.size (k1_off1_inb i k)).toLoadRect (harg3.unread x1) = chunkOf x1 (k1_off1 i k) (k1_off1_inb i k) := by
    show View.ld (arg3.view.read (Elt Ideal) (harg3.unread x1)) _ = _
    rw [Memref.IsWhole.read_unread]; rfl
  have e2 : View.readAt (Elt Ideal) arg4.view (Rect.unit (s := S1x1x2048x128) (k1_off1 i k) S1x1x512x128.size (k1_off1_inb i k)).toLoadRect (harg4.unread x2) = chunkOf x2 (k1_off1 i k) (k1_off1_inb i k) := by
    show View.ld (arg4.view.read (Elt Ideal) (harg4.unread x2)) _ = _
    rw [Memref.IsWhole.read_unread]; rfl
  rw [← e1, ← e2, stepF, ← iv_eq k]
  unfold tripR_k1_t1 trip_k1_t1
  rfl

/-- The number of trips of the first loop. -/
theorem trips1 : ∀ t : Fin grid1.N, (k1_t1_loop (grid1.coords t)).trips = t.val % 4 := by decide +kernel
/-- The remainder loop does not run. -/
theorem trips2 : ∀ t : Fin grid1.N, (k1_t2_loop (grid1.coords t)).trips = 0 := by decide +kernel
/-- Where the chunks start. -/
theorem off1 : ∀ t : Fin grid1.N, ∀ k : Fin (k1_t1_loop (grid1.coords t)).trips, k1_off1 (grid1.coords t) k = ![0, 0, k.val * 512, 0] := by decide +kernel
/-- Where the last chunk starts. -/
theorem off3 : ∀ t : Fin grid1.N, k1_off3 (grid1.coords t) = ![0, 0, t.val % 4 * 512, 0] := by decide +kernel
/-- The tile number as the kernel's word. -/
theorem arg1_eq : ∀ t : Fin grid1.N, ((grid1.coords t) 1 : ℕ) = t.val % 4 := by decide +kernel

/-- The attention vector stored after the diagonal chunk. -/
def out5F (v4 : FVec Ideal S1024x128 .bf16) (s : St) (kd vd : Vec Ideal S1x1x512x128 .bf16) : FVec Ideal S1x1x512x256 .bf16 :=
  k1_pay57 (k1_pay48 s.1 s.2.1 (k1_pay43 v4 kd) (k1_pay44 v4 s.1 kd)) (k1_pay49 s.1 s.2.2.1 (k1_pay42 vd) (k1_pay43 v4 kd) (k1_pay44 v4 s.1 kd))

/-- The normalised block sums of the tile. -/
def gtF (a : ℕ) (v4 : FVec Ideal S1024x128 .bf16) (s : St) (kd : Vec Ideal S1x1x512x128 .bf16) : FVec Ideal S512x32 .f32 :=
  k1_pay58 (BitVec.ofNat 32 a) s.2.2.2 (k1_pay45 s.1 (k1_pay44 v4 s.1 kd)) (k1_pay48 s.1 s.2.1 (k1_pay43 v4 kd) (k1_pay44 v4 s.1 kd)) (k1_pay50 k1_pay35 (k1_pay43 v4 kd) (k1_pay44 v4 s.1 kd)) (iota .tc S1024x32 32 [1] iota_S1024x32_d1_w32)
      (k1_pay54 (BitVec.ofNat 32 a) (k1_pay50 k1_pay35 (k1_pay43 v4 kd) (k1_pay44 v4 s.1 kd)) (iota .tc S1024x32 32 [1] iota_S1024x32_d1_w32) (k1_pay51 (BitVec.ofNat 32 a) k1_pay35 (k1_pay43 v4 kd) (k1_pay44 v4 s.1 kd)) (k1_pay52 (BitVec.ofNat 32 a)) (k1_pay53 k1_pay35 (k1_pay43 v4 kd) (k1_pay44 v4 s.1 kd)))
      (k1_pay55 (BitVec.ofNat 32 a) (iota .tc S1024x32 32 [1] iota_S1024x32_d1_w32)) (k1_pay56 (k1_pay50 k1_pay35 (k1_pay43 v4 kd) (k1_pay44 v4 s.1 kd)))

/-- What the run stores, by the states of its loop. -/
theorem run_out (c : Dev nD) (i : grid1.Coords) (arg2 : Memref sig .tc .vmem S1x1x512x256 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x32x128 .bf16) (harg6 : arg6.IsWhole) (arg7 : Memref sig .tc .vmem S1x1x512x256 .bf16) (harg7 : arg7.IsWhole) (arg8 : Memref sig .tc .vmem S1x1x128 .f32) (harg8 : arg8.IsWhole) (x0 : Vec Ideal S1x1x512x256 .bf16) (x1 : Vec Ideal S1x1x2048x128 .bf16) (x2 : Vec Ideal S1x1x2048x128 .bf16) (x3 : Vec Ideal S1x1x512x128 .bf16) (x4 : Vec Ideal S1x1x32x128 .bf16)
    (h2 : (k1_t2_loop i).trips = 0) :
   ∃ st : ℕ → St, st 0 = (k1_pay36, k1_pay37, k1_pay38, k1_pay39)
    ∧ (∀ k : Fin (k1_t1_loop i).trips, st (k.val + 1) = stepF k (k1_pay34 x0) (chunkOf x1 (k1_off1 i k) (k1_off1_inb i k)) (chunkOf x2 (k1_off1 i k) (k1_off1_inb i k)) (st k.val))
    ∧ (kernelRun1_A c i arg2 harg2 arg3 harg3 arg4 harg4 arg5 harg5 arg6 harg6 arg7 harg7 arg8 harg8 x0 x1 x2 x3 x4).1 = [⟨Rect.unit ![0, 0, 0, 0] S1x1x512x256.size inb_S1x1x512x256_S1x1x512x256_0_0_0_0,
        out5F (k1_pay34 x0) (st (k1_t1_loop i).trips) (chunkOf x1 (k1_off3 i) (k1_off3_inb i)) (chunkOf x2 (k1_off3 i) (k1_off3_inb i))⟩]
    ∧ (kernelRun1_A c i arg2 harg2 arg3 harg3 arg4 harg4 arg5 harg5 arg6 harg6 arg7 harg7 arg8 harg8 x0 x1 x2 x3 x4).2.1 = [⟨Rect.unit ![0, 0, 0] S1x1x128.size inb_S1x1x128_S1x1x128_0_0_0,
        k1_pay1 (k1_pay60 (BitVec.ofNat 32 (i 1).val) (gtF (i 1).val (k1_pay34 x0) (st (k1_t1_loop i).trips) (chunkOf x1 (k1_off3 i) (k1_off3_inb i))) (k1_pay59 x3) x4)⟩] := by
  have e0 : kernelRun1_A.sl.r c arg2 harg2 x0 = k1_pay34 x0 := by
    show k1_pay34 (View.readAt (Elt Ideal) arg2.view (Rect.unit (s := S1x1x512x256) ![0, 0, 0, 0] S1x1x512x256.size inb_S1x1x512x256_S1x1x512x256_0_0_0_0).toLoadRect (harg2.unread x0)) = _
    rw [View.readAt_eq_ld, Memref.IsWhole.read_unread, View.ld_unit_lit _ _ (by decide)]
  have e3 : kernelRun1_A.sl.r_19 c arg5 harg5 x3 = k1_pay59 x3 := by
    show k1_pay59 (View.readAt (Elt Ideal) arg5.view (Rect.unit (s := S1x1x512x128) ![0, 0, 0, 0] S1x1x512x128.size inb_S1x1x512x128_S1x1x512x128_0_0_0_0).toLoadRect (harg5.unread x3)) = _
    rw [View.readAt_eq_ld, Memref.IsWhole.read_unread, View.ld_unit_lit _ _ (by decide)]
  have e4 : View.readAt (Elt Ideal) arg6.view (Rect.unit (s := S1x1x32x128) ![0, 0, 0, 0] S1x1x32x128.size inb_S1x1x32x128_S1x1x32x128_0_0_0_0).toLoadRect (harg6.unread x4) = x4 := by
    rw [View.readAt_eq_ld, Memref.IsWhole.read_unread, View.ld_unit_lit _ _ (by decide)]
  have k3 : View.readAt (Elt Ideal) arg3.view (Rect.unit (s := S1x1x2048x128) (k1_off3 i) S1x1x512x128.size (k1_off3_inb i)).toLoadRect (harg3.unread x1) = chunkOf x1 (k1_off3 i) (k1_off3_inb i) := by
    show View.ld (arg3.view.read (Elt Ideal) (harg3.unread x1)) _ = _
    rw [Memref.IsWhole.read_unread]; rfl
  have k4 : View.readAt (Elt Ideal) arg4.view (Rect.unit (s := S1x1x2048x128) (k1_off3 i) S1x1x512x128.size (k1_off3_inb i)).toLoadRect (harg4.unread x2) = chunkOf x2 (k1_off3 i) (k1_off3_inb i) := by
    show View.ld (arg4.view.read (Elt Ideal) (harg4.unread x2)) _ = _
    rw [Memref.IsWhole.read_unread]; rfl
  refine ⟨fun n => st_k1_t1 Variants.none c none i arg2 harg2 arg3 harg3 arg4 harg4 arg5 harg5 arg6 harg6 arg7 harg7 arg8 harg8 (BitVec.ofNat 32 (i 1).val) (k1_pay34 x0) k1_pay35 k1_pay36 k1_pay37 k1_pay38 k1_pay39 0#32 (kernelRun1_A.sl.v39 i) 1#32 (harg3.unread x1) (harg4.unread x2) (k1_pay36, k1_pay37, k1_pay38, k1_pay39) n,
    rfl, fun k => (st_k1_t1_succ ..).trans (trip_eq ..), ?_, ?_⟩
  · rw [← k3, ← k4, ← e0]
    have z : Scf.trips (k1_t2_loop i).lb (k1_t2_loop i).ub (k1_t2_loop i).st = 0 := h2
    unfold kernelRun1_A kernelRun1_A.sl.r_9 kernelRun1_A.sl.r_10 kernelRun1_A.sl.r_6 kernelRun1_A.sl.r_7 kernelRun1_A.sl.r_1 kernelRun1_A.sl.r_2 kernelRun1_A.sl.r_3
    dsimp only
    rw [z]
    rfl
  · rw [← k3, ← e0, ← e3]
    have z : Scf.trips (k1_t2_loop i).lb (k1_t2_loop i).ub (k1_t2_loop i).st = 0 := h2
    unfold gtF kernelRun1_A kernelRun1_A.sl.r_20 kernelRun1_A.sl.r_18 kernelRun1_A.sl.r_15 kernelRun1_A.sl.r_16 kernelRun1_A.sl.r_17 kernelRun1_A.sl.r_11 kernelRun1_A.sl.r_12 kernelRun1_A.sl.r_13 kernelRun1_A.sl.r_14 kernelRun1_A.sl.v96 kernelRun1_A.sl.r_9 kernelRun1_A.sl.r_8 kernelRun1_A.sl.r_6 kernelRun1_A.sl.r_7 kernelRun1_A.sl.r_1 kernelRun1_A.sl.r_2 kernelRun1_A.sl.r_4
    dsimp only
    rw [z, e4]
    rfl
end Cert.KV
-- ==== Proof.Tile.lean ====
/- A tile of the flash kernel: what its run stores is the attention and the loss of the tile's queries. -/
module
public import proofs.«01_k».proof.Proof.Flash
@[expose] public section
set_option maxRecDepth 16384
noncomputable section
namespace Cert.KV
open Cert.KernelIdeal Cert.KernelIdeal.Gen Idealize.ShloMosaic Idealize.ShloMosaic.TcCoe Cert.Spec Cert.Row

/-- Scores of row `r` of tile `a`, masked to the keys not after the query. -/
def sc (Q K : ℕ → ℕ → EReal) (a r k : ℕ) : EReal :=
  if k ≤ a * 512 + r % 512 then (∑ d : Fin 128, Q r d * K k d) * isd else ⊥

/-- A sum against the indicator of a block of 64. -/
theorem block_sum (f : ℕ → EReal) (c : ℕ) (hc : c < 8) :
    ∑ k : Fin 512, f k * (if k.val / 64 = c then 1 else 0) = ∑ r ∈ Finset.range 64, f (c * 64 + r) := by
  rw [Fin.sum_univ_eq_sum_range (fun k => f k * (if k / 64 = c then 1 else 0)) 512]
  simp only [mul_ite, mul_one, mul_zero]
  rw [← Finset.sum_filter]
  have : (Finset.range 512).filter (fun k => k / 64 = c) = Finset.Ico (c * 64) (c * 64 + 64) := by
    ext k
    simp only [Finset.mem_filter, Finset.mem_range, Finset.mem_Ico]
    omega
  rw [this, Finset.sum_Ico_eq_sum_range, Nat.add_sub_cancel_left]

variable (Q K : ℕ → ℕ → EReal) (V : ℕ → ℕ → EReal) (a : ℕ)

/-- What the carried values are after `n` chunks. -/
def InvF (n : ℕ) (s : St) : Prop := ∀ r : Fin 1024,
  s.1 (ix2 r 0) = mx (sc Q K a r) (n * 512)
  ∧ s.2.1 (ix2 r 0) = dn (sc Q K a r) (n * 512)
  ∧ (∀ d : Fin 128, s.2.2.1 (ix2 r d) = ac (sc Q K a r) (fun k => V k d) (n * 512))
  ∧ (∀ j : Fin 32, s.2.2.2 (ix2 r j) = if j.val < n * 8 then bl (sc Q K a r) (n * 512) j else 0)

/-- Before the first chunk. -/
theorem inv_zero : InvF Q K V a 0 (k1_pay36, k1_pay37, k1_pay38, k1_pay39) := by
  intro r
  refine ⟨?_, ?_, fun d => ?_, fun j => ?_⟩
  · dsimp only; pointwise [k1_pay36, mask_eq]; exact (mx_zero _).symm
  · dsimp only; pointwise [k1_pay37]; exact (dn_zero _).symm
  · dsimp only; pointwise [k1_pay38]; exact (ac_zero _ _).symm
  · dsimp only; pointwise [k1_pay39]; rw [if_neg (by omega)]

variable (hS : ∀ r : ℕ, ∀ k, sc Q K a r k ≠ ⊤) (h0 : ∀ r : ℕ, sc Q K a r 0 ≠ ⊥)
include hS h0

/-- A chunk before the diagonal keeps the carried values. -/
theorem inv_step (n : ℕ) (hn : n < a) (ha : a < 4) (v4 : FVec Ideal S1024x128 .bf16) (kc vc : Vec Ideal S1x1x512x128 .bf16) (s : St)
    (hq : ∀ r d, v4 (ix2 r d) = Q r d) (hk : ∀ k d, kc (ix4 0 0 k d) = K (n * 512 + k) d) (hv : ∀ k d, vc (ix4 0 0 k d) = V (n * 512 + k) d)
    (h : InvF Q K V a n s) : InvF Q K V a (n + 1) (stepF n v4 kc vc s) := by
  intro r
  obtain ⟨h1, h2, h3, h4⟩ := h r
  have e2 : ∀ k : Fin 512, k1_pay2 v4 kc (ix2 r k) = sc Q K a r (n * 512 + k) := by
    intro k
    rw [pay2_e, sc, if_pos (by omega)]
    simp only [hq, hk]
  have e3 : k1_pay3 v4 s.1 kc (ix2 r 0) = mx (sc Q K a r) (n * 512 + 512) := by
    rw [pay3_e, h1, mx_add]; simp only [e2]
  have e4 : k1_pay4 v4 s.1 kc (ix2 r 0) = Ideal.exp (mx (sc Q K a r) (n * 512) - mx (sc Q K a r) (n * 512 + 512)) := by
    rw [pay4_e, h1, e3]
  have e5 : ∀ k : Fin 512, k1_pay5 v4 s.1 kc (ix2 r k) = Ideal.exp (sc Q K a r (n * 512 + k) - mx (sc Q K a r) (n * 512 + 512)) := by
    intro k; rw [pay5_e, e2, e3]
  rw [Nat.succ_mul]
  refine ⟨e3, ?_, fun d => ?_, fun j => ?_⟩
  · show k1_pay7 v4 s.1 s.2.1 kc (ix2 r 0) = _
    rw [pay7_e, h2, e4]; simp only [e5]
    exact dn_add _ (hS r) (h0 r) _ _ (by decide)
  · show k1_pay8 v4 s.1 s.2.2.1 kc vc (ix2 r d) = _
    rw [pay8_e, h3, e4]; simp only [e5, hv]
    exact ac_add _ (fun k => V k d) (hS r) (h0 r) _ _ (by decide)
  · unfold stepF
    dsimp only
    rw [pay40_e _ n (by omega), h4, e4, pay9_e]
    simp only [e5, pay35_e]
    rw [block_sum (fun k => Ideal.exp (sc Q K a r (n * 512 + k) - mx (sc Q K a r) (n * 512 + 512))) _ (Nat.mod_lt _ (by decide))]
    by_cases hj : j.val < n * 8
    · rw [if_pos hj, if_neg (by omega), add_zero, if_pos (by omega)]
      exact bl_corr _ (hS r) (h0 r) _ _ _ (by omega) (by decide)
    · rw [if_neg hj, zero_mul, zero_add]
      by_cases hj' : j.val / 8 = n
      · rw [if_pos hj', if_pos (by omega), bl]
        refine Finset.sum_congr rfl fun q _ => ?_
        rw [show n * 512 + (j.val % 8 * 64 + q) = j.val * 64 + q by omega]
      · rw [if_neg hj', if_neg (by omega)]

variable (ha : a < 4) (v4 : FVec Ideal S1024x128 .bf16) (kd vd : Vec Ideal S1x1x512x128 .bf16) (s : St)
    (hq : ∀ r d, v4 (ix2 r d) = Q r d) (hk : ∀ k d, kd (ix4 0 0 k d) = K (a * 512 + k) d) (hv : ∀ k d, vd (ix4 0 0 k d) = V (a * 512 + k) d)
    (h : InvF Q K V a a s)
include hq hk h

omit hS h0 in
theorem fin_S (r : Fin 1024) (k : Fin 512) : k1_pay43 v4 kd (ix2 r k) = sc Q K a r (a * 512 + k) := by
  rw [pay43_e, sc]
  simp only [hq, hk]
  by_cases hh : k.val ≤ r.val % 512
  · rw [if_pos hh, if_pos (by omega)]
  · rw [if_neg hh, if_neg (by omega)]

omit hS h0 in
theorem fin_M (r : Fin 1024) : k1_pay44 v4 s.1 kd (ix2 r 0) = mx (sc Q K a r) (a * 512 + 512) := by
  rw [pay44_e, (h r).1, mx_add]; simp only [fin_S Q K V a v4 kd s hq hk h]

/-- After the diagonal chunk the denominator is that of the keys up to its end. -/
theorem fin_L (r : Fin 1024) : k1_pay48 s.1 s.2.1 (k1_pay43 v4 kd) (k1_pay44 v4 s.1 kd) (ix2 r 0) = dn (sc Q K a r) (a * 512 + 512) := by
  rw [pay48_e, (h r).1, (h r).2.1, fin_M Q K V a v4 kd s hq hk h]; simp only [fin_S Q K V a v4 kd s hq hk h]
  exact dn_add _ (hS r) (h0 r) _ _ (by decide)

include hv in
theorem fin_A (r : Fin 1024) (d : Fin 128) :
    k1_pay49 s.1 s.2.2.1 (k1_pay42 vd) (k1_pay43 v4 kd) (k1_pay44 v4 s.1 kd) (ix2 r d) = ac (sc Q K a r) (fun k => V k d) (a * 512 + 512) := by
  rw [pay49_e, (h r).1, (h r).2.2.1, fin_M Q K V a v4 kd s hq hk h]; simp only [fin_S Q K V a v4 kd s hq hk h, hv]
  exact ac_add _ (fun k => V k d) (hS r) (h0 r) _ _ (by decide)

omit hS h0 hq hk h in
theorem sc_mask (r k : ℕ) (hk : a * 512 + 512 ≤ k) : sc Q K a r k = ⊥ := by
  rw [sc, if_neg (by omega)]

include hv ha in
/-- The stored attention is the softmax-weighted sum of values. -/
theorem out5F_e (y z : Fin 1) (r : Fin 512) (j : Fin 256) :
    out5F v4 s kd vd (ix4 y z r j) = ∑ k ∈ Finset.range 2048,
      Ideal.div (Ideal.exp (sc Q K a (j / 128 * 512 + r) k - mx (sc Q K a (j / 128 * 512 + r)) 2048)) (dn (sc Q K a (j / 128 * 512 + r)) 2048) * V k (j % 128 : ℕ) := by
  rw [out5F, pay57_e, fin_A Q K V a hS h0 v4 kd vd s hq hk hv h, fin_L Q K V a hS h0 v4 kd s hq hk h]
  dsimp only
  rw [← div_ac _ (fun k => V k (j % 128 : ℕ)) (hS _) (h0 _) 2048 (by decide)]
  rw [ac_mask _ (fun k => V k (j % 128 : ℕ)) (hS _) (h0 _) (a * 512 + 512) 2048 (fun k hk => sc_mask Q K a _ k hk) (by omega) (by decide)]
  rw [dn_mask _ (hS _) (h0 _) (a * 512 + 512) 2048 (fun k hk => sc_mask Q K a _ k hk) (by omega) (by decide)]

include ha in
/-- A head's block weight. -/
theorem blkF_e (r : Fin 1024) (j : Fin 32) :
    blkF s.2.2.2 a (k1_pay45 s.1 (k1_pay44 v4 s.1 kd)) (k1_pay48 s.1 s.2.1 (k1_pay43 v4 kd) (k1_pay44 v4 s.1 kd)) (k1_pay50 k1_pay35 (k1_pay43 v4 kd) (k1_pay44 v4 s.1 kd)) r j
      = ∑ q ∈ Finset.range 64, Ideal.div (Ideal.exp (sc Q K a r (j * 64 + q) - mx (sc Q K a r) 2048)) (dn (sc Q K a r) 2048) := by
  rw [← div_bl _ (hS _) (h0 _) 2048 _ (by decide), blkF, fin_L Q K V a hS h0 v4 kd s hq hk h]
  rw [dn_mask _ (hS _) (h0 _) (a * 512 + 512) 2048 (fun k hk => sc_mask Q K a _ k hk) (by omega) (by decide)]
  congr 1
  rw [(h r).2.2.2, pay45_e, (h r).1, pay50_e, fin_M Q K V a v4 kd s hq hk h]
  simp only [fin_S Q K V a v4 kd s hq hk h, pay35_e]
  rw [block_sum (fun k => Ideal.exp (sc Q K a r (a * 512 + k) - mx (sc Q K a r) (a * 512 + 512))) _ (Nat.mod_lt _ (by decide))]
  have em : bl (sc Q K a r) 2048 j = bl (sc Q K a r) (a * 512 + 512) j := by
    rw [bl, bl, mx_mask _ (a * 512 + 512) 2048 (fun k hk => sc_mask Q K a _ k hk) (by omega)]
  by_cases hj : j.val < a * 8
  · rw [if_pos hj, if_neg (by omega), add_zero, em]
    exact bl_corr _ (hS r) (h0 r) _ _ _ (by omega) (by decide)
  · rw [if_neg hj, zero_mul, zero_add]
    by_cases hj' : j.val / 8 = a
    · rw [if_pos hj', em, bl]
      refine Finset.sum_congr rfl fun q _ => ?_
      rw [show a * 512 + (j.val % 8 * 64 + q) = j.val * 64 + q by omega]
    · rw [if_neg hj', bl_mask _ (hS r) (h0 r) 2048 _ (fun k hk => sc_mask Q K a _ k (by omega)) (by decide)]

end Cert.KV
-- ==== Proof.Real.lean ====
/- Real rotations and weights give real heads, so that every unmasked score is a real number. -/
module
public import proofs.«01_k».proof.Proof.Row
@[expose] public section
noncomputable section
namespace Cert.Row
open Idealize.ShloMosaic Cert.Spec

/-- Sums of reals are real. -/
theorem IsR.add {x y : EReal} (hx : IsR x) (hy : IsR y) : IsR (x + y) := by
  obtain ⟨a, rfl⟩ := hx; obtain ⟨b, rfl⟩ := hy; exact ⟨a + b, (EReal.coe_add a b).symm⟩
/-- Products of reals are real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- Differences of reals are real. -/
theorem IsR.sub {x y : EReal} (hx : IsR x) (hy : IsR y) : IsR (x - y) := by
  obtain ⟨a, rfl⟩ := hx; obtain ⟨b, rfl⟩ := hy; exact ⟨a - b, (EReal.coe_sub a b).symm⟩
/-- Zero is real. -/
theorem IsR.zero : IsR 0 := ⟨0, rfl⟩
/-- Finite sums of reals are real. -/
theorem IsR.sum {ι : Type*} (s : Finset ι) (f : ι → EReal) (h : ∀ i, IsR (f i)) : IsR (∑ i ∈ s, f i) := by
  classical
  induction s using Finset.induction_on with
  | empty => exact IsR.zero
  | insert a s ha ih => rw [Finset.sum_insert ha]; exact (h a).add ih

/-- The float 128 is the number 128. -/
theorem c128_val : c128 = ((128 : ℝ) : EReal) := by
  have e1 : ¬ BitVec.extractLsb' 31 1 1124073472#32 = 1#1 := by decide
  have e2 : 1124073472 >>> 23 % 256 = 134 := by decide
  rw [c128]; simp [Ideal.ofBits, Ideal.ieee, e1, e2]; norm_num
  rw [← EReal.coe_mul]; norm_num
/-- The normalisation's addend is a positive real. -/
theorem eps_val : ∃ e : ℝ, 0 < e ∧ eps = e := by
  have e1 : ¬ BitVec.extractLsb' 31 1 897988541#32 = 1#1 := by decide
  have e2 : 897988541 >>> 23 % 256 = 107 := by decide
  refine ⟨8796093 * 2 ^ (107 - 127 - 23 : ℤ), by positivity, ?_⟩
  rw [eps]; simp [Ideal.ofBits, Ideal.ieee, e1, e2]

/-- The inverse square root of a positive real is real. -/
theorem rsqrt_real {r : ℝ} (h : 0 < r) : IsR (Ideal.rsqrt r) := by
  refine ⟨(Real.sqrt r)⁻¹, ?_⟩
  rw [Ideal.rsqrt_coe, if_neg (not_lt.mpr h.le), if_neg h.ne']

/-- The square of any entry is at least zero. -/
theorem sq_nonneg (x : EReal) : 0 ≤ x * x := by
  induction x using EReal.rec with
  | bot => simp
  | top => simp
  | coe r => rw [← EReal.coe_mul]; exact EReal.coe_nonneg.2 (mul_self_nonneg r)
/-- The square of an entry that is no real is infinite. -/
theorem sq_top {x : EReal} (h : ¬ IsR x) : x * x = ⊤ := by
  induction x using EReal.rec with
  | bot => simp
  | top => simp
  | coe r => exact absurd ⟨r, rfl⟩ h

/-- A normalised head is real: one with an infinite entry is scaled by zero. -/
theorem norm_real (f w : ℕ → EReal) (hw : ∀ d, IsR (w d)) (d : ℕ) (hd : d < 128) : IsR (norm f w d) := by
  obtain ⟨e, he, hE⟩ := eps_val
  refine IsR.mul ?_ (hw d)
  by_cases hf : ∀ i : Fin 128, IsR (f i)
  · refine IsR.mul (hf ⟨d, hd⟩) ?_
    choose g hg using hf
    have hs : ∑ i : Fin 128, f i * f i = ((∑ i : Fin 128, g i * g i : ℝ) : EReal) := by
      simp only [hg, ← EReal.coe_mul]
      exact (map_sum (⟨⟨Real.toEReal, rfl⟩, EReal.coe_add⟩ : ℝ →+ EReal) _ _).symm
    rw [hs, c128_val, Ideal.div_coe (by norm_num), hE, ← EReal.coe_mul, ← EReal.coe_add]
    refine rsqrt_real ?_
    have : 0 ≤ ∑ i : Fin 128, g i * g i := Finset.sum_nonneg fun i _ => mul_self_nonneg _
    positivity
  · obtain ⟨i, hi⟩ := not_forall.1 hf
    have hs : ∑ i : Fin 128, f i * f i = ⊤ := by
      refine top_le_iff.1 ((sq_top hi).symm.le.trans ?_)
      exact Finset.single_le_sum (f := fun i : Fin 128 => f i * f i) (fun i _ => sq_nonneg _) (Finset.mem_univ i)
    rw [hs, c128_val, Ideal.div_coe (by norm_num), EReal.top_mul_coe_of_pos (by norm_num), hE, EReal.top_add_coe,
      show Ideal.rsqrt ⊤ = 0 from rfl, mul_zero]
    exact IsR.zero

/-- A rotated real head is real. -/
theorem rope_real (f c s : ℕ → EReal) (hf : ∀ d, d < 128 → IsR (f d)) (hc : ∀ d, IsR (c d)) (hs : ∀ d, IsR (s d)) (d : ℕ) (hd : d < 128) :
    IsR (rope f c s d) := by
  refine ((hf d hd).mul (hc d)).add (IsR.mul ?_ (hs d))
  split
  · exact IsR.zero.sub (hf _ (by omega))
  · exact hf _ (by omega)

/-- Every entry of the rotations and of the normalisations' weights is a real number. -/
structure Fin' (P : In) : Prop where
  cos : ∀ t k, IsR (P.cos t k)
  sin : ∀ t k, IsR (P.sin t k)
  qw : ∀ k, IsR (P.qw k)
  kw : ∀ k, IsR (P.kw k)

/-- Rotated query heads are real. -/
theorem qr_real (P : In) (F : Fin' P) (t n d : ℕ) (hd : d < 128) : IsR (qr P t n d) :=
  rope_real _ _ _ (norm_real _ _ F.qw) (F.cos t) (F.sin t) d hd
/-- Rotated key heads are real. -/
theorem kr_real (P : In) (F : Fin' P) (t n d : ℕ) (hd : d < 128) : IsR (kr P t n d) :=
  rope_real _ _ _ (norm_real _ _ F.kw) (F.cos t) (F.sin t) d hd

/-- The sum of products of real queries and keys, scaled, is real. -/
theorem scal_real (f g : ℕ → EReal) (hf : ∀ d, d < 128 → IsR (f d)) (hg : ∀ d, d < 128 → IsR (g d)) : IsR ((∑ d : Fin 128, f d * g d) * isd) :=
  IsR.mul (IsR.sum _ _ fun d => (hf d d.isLt).mul (hg d d.isLt)) ⟨_, rfl⟩
end Cert.Row
end
-- ==== Proof.Tile2.lean ====
/- What the flash kernel leaves at a grid point: the attention of the tile's queries, and the tile's part of the loss. -/
module
public import proofs.«01_k».proof.Proof.Tile
public import proofs.«01_k».proof.Proof.Real
@[expose] public section
set_option maxRecDepth 16384
noncomputable section
namespace Cert.KV
open Cert.KernelIdeal Cert.KernelIdeal.Gen Idealize.ShloMosaic Idealize.ShloMosaic.TcCoe Cert.Spec Cert.Row

/-- A chunk read in its array. -/
theorem chunk_e (x : Vec Ideal S1x1x2048x128 .bf16) (off : Fin 4 → ℕ) (h) (n : ℕ) (e : off = ![0, 0, n * 512, 0]) (hn : n < 4)
    (k : Fin 512) (d : Fin 128) :
    chunkOf x off h (ix4 0 0 k d) = x (ix4 0 0 ⟨n * 512 + k, by omega⟩ d) := by
  subst e
  show x _ = x _
  congr 1
  ext a
  fin_cases a <;> simp [Rect.emb, Rect.unit] <;> omega

/-- The queries of a tile. -/
def tQ (P : In) (b g a r d : ℕ) : EReal := qr P (b * 2048 + (a * 512 + r % 512)) (g * 2 + r / 512 % 2) d
/-- The keys of a tile. -/
def tK (P : In) (b g k d : ℕ) : EReal := kr P (b * 2048 + k) g d
/-- The values of a tile. -/
def tV (P : In) (b g k d : ℕ) : EReal := vv P (b * 2048 + k) g d

/-- The tile's scores are the specification's. -/
theorem sc_eq (P : In) (b g a r k : ℕ) :
    sc (tQ P b g a) (tK P b g) a r k = score P b (g * 2 + r / 512 % 2) (a * 512 + r % 512) k := by
  have e : (g * 2 + r / 512 % 2) / 2 = g := by omega
  rw [sc, score, e]
  rfl

/-- Real queries and keys have scores below the top. -/
theorem score_top (P : In) (hq : ∀ t n d, d < 128 → IsR (qr P t n d)) (hk : ∀ t n d, d < 128 → IsR (kr P t n d)) (b n q k : ℕ) : score P b n q k ≠ ⊤ := by
  rw [score]
  split
  · exact (scal_real _ _ (hq _ n) (hk _ _)).ne_top
  · exact bot_ne_top

/-- The first key's score is above the bottom. -/
theorem score_bot (P : In) (hq : ∀ t n d, d < 128 → IsR (qr P t n d)) (hk : ∀ t n d, d < 128 → IsR (kr P t n d)) (b n q : ℕ) : score P b n q 0 ≠ ⊥ := by
  rw [score, if_pos (Nat.zero_le _)]
  exact (scal_real _ _ (hq _ n) (hk _ _)).ne_bot

section
variable (P : In) (hqr : ∀ t n d, d < 128 → IsR (qr P t n d)) (hkr : ∀ t n d, d < 128 → IsR (kr P t n d)) (b g a : ℕ) (ha : a < 4)
    (x0 : Vec Ideal S1x1x512x256 .bf16) (x1 x2 : Vec Ideal S1x1x2048x128 .bf16) (x3 : Vec Ideal S1x1x512x128 .bf16) (x4 : Vec Ideal S1x1x32x128 .bf16)
    (h0 : ∀ r j, x0 (ix4 0 0 r j) = qr P (b * 2048 + (a * 512 + r)) (g * 2 + j / 128) (j % 128 : ℕ))
    (h1 : ∀ k d, x1 (ix4 0 0 k d) = kr P (b * 2048 + k) g d)
    (h2 : ∀ k d, x2 (ix4 0 0 k d) = vv P (b * 2048 + k) g d)
    (h3 : ∀ r d, x3 (ix4 0 0 r d) = qg P (b * 2048 + (a * 512 + r)) g d)
    (h4 : ∀ j d, x4 (ix4 0 0 j d) = kg P (b * 32 + j) g d)

include h0 in
/-- The tile's queries, head by head. -/
theorem tq_e (r : Fin 1024) (d : Fin 128) : k1_pay34 x0 (ix2 r d) = tQ P b g a r d := by
  rw [pay34_e, h0, tQ]
  dsimp only
  congr 1 <;> omega

include hqr hkr ha h0 h1 h2 in
/-- The states of the loop keep the invariant. -/
theorem inv_all (t : Fin grid1.N) (et : t.val % 4 = a) (st : ℕ → St) (s0 : st 0 = (k1_pay36, k1_pay37, k1_pay38, k1_pay39))
    (ss : ∀ k : Fin (k1_t1_loop (grid1.coords t)).trips, st (k.val + 1) = stepF k (k1_pay34 x0) (chunkOf x1 (k1_off1 (grid1.coords t) k) (k1_off1_inb (grid1.coords t) k)) (chunkOf x2 (k1_off1 (grid1.coords t) k) (k1_off1_inb (grid1.coords t) k)) (st k.val)) :
    ∀ n, n ≤ a → InvF (tQ P b g a) (tK P b g) (tV P b g) a n (st n) := by
  intro n
  induction n with
  | zero => intro _; rw [s0]; exact inv_zero _ _ _ _
  | succ n ih =>
    intro hn
    have hk : n < (k1_t1_loop (grid1.coords t)).trips := by rw [trips1, et]; omega
    rw [ss ⟨n, hk⟩]
    refine inv_step _ _ _ a (fun r k => ?_) (fun r => ?_) n (by omega) ha _ _ _ _ (tq_e P b g a x0 h0) (fun k d => ?_) (fun k d => ?_) (ih (by omega))
    · rw [sc_eq]; exact score_top P hqr hkr _ _ _ _
    · rw [sc_eq]; exact score_bot P hqr hkr _ _ _
    · rw [chunk_e x1 _ _ n (off1 t ⟨n, hk⟩) (by omega), h1]; rfl
    · rw [chunk_e x2 _ _ n (off1 t ⟨n, hk⟩) (by omega), h2]; rfl

include hqr hkr ha h0 h1 in
/-- The target distribution of the tile's queries. -/
theorem gtF_e (t : Fin grid1.N) (et : t.val % 4 = a) (s : St) (h : InvF (tQ P b g a) (tK P b g) (tV P b g) a a s) (r : Fin 512) (j : Fin 32) :
    gtF a (k1_pay34 x0) s (chunkOf x1 (k1_off3 (grid1.coords t)) (k1_off3_inb (grid1.coords t))) (ix2 r j) = gt P b g (a * 512 + r) j := by
  have hb := blkF_e (tQ P b g a) (tK P b g) (tV P b g) a (fun r k => by rw [sc_eq]; exact score_top P hqr hkr _ _ _ _) (fun r => by rw [sc_eq]; exact score_bot P hqr hkr _ _ _)
    ha (k1_pay34 x0) (chunkOf x1 (k1_off3 (grid1.coords t)) (k1_off3_inb (grid1.coords t))) s (tq_e P b g a x0 h0)
    (fun k d => by rw [chunk_e x1 _ _ a (by rw [off3 t, et]) ha, h1]; rfl) h
  have hp : ∀ (r : Fin 1024) (j : Fin 32), ∑ q ∈ Finset.range 64, Ideal.div (Ideal.exp (sc (tQ P b g a) (tK P b g) a r (j * 64 + q) - mx (sc (tQ P b g a) (tK P b g) a r) 2048)) (dn (sc (tQ P b g a) (tK P b g) a r) 2048)
      = psum P b (g * 2 + r / 512 % 2) (a * 512 + r % 512) j := by
    intro r j
    have e : sc (tQ P b g a) (tK P b g) a r = score P b (g * 2 + r / 512 % 2) (a * 512 + r % 512) := funext fun k => sc_eq P b g a r k
    rw [e]; rfl
  rw [gtF, pay58_e _ a ha]
  have hm : ∀ j : Fin 32, blkM s.2.2.2 a (k1_pay45 s.1 (k1_pay44 (k1_pay34 x0) s.1 (chunkOf x1 (k1_off3 (grid1.coords t)) (k1_off3_inb (grid1.coords t)))))
      (k1_pay48 s.1 s.2.1 (k1_pay43 (k1_pay34 x0) (chunkOf x1 (k1_off3 (grid1.coords t)) (k1_off3_inb (grid1.coords t)))) (k1_pay44 (k1_pay34 x0) s.1 (chunkOf x1 (k1_off3 (grid1.coords t)) (k1_off3_inb (grid1.coords t)))))
      (k1_pay50 k1_pay35 (k1_pay43 (k1_pay34 x0) (chunkOf x1 (k1_off3 (grid1.coords t)) (k1_off3_inb (grid1.coords t)))) (k1_pay44 (k1_pay34 x0) s.1 (chunkOf x1 (k1_off3 (grid1.coords t)) (k1_off3_inb (grid1.coords t))))) r j
      = m1d P b g (a * 512 + r) j := by
    intro j
    rw [blkM, hb, hb, hp, hp, m1d]
    dsimp only
    have w1 : r.val / 512 % 2 = 0 := by omega
    have w2 : (512 + r.val) / 512 % 2 = 1 := by omega
    have w3 : r.val % 512 = r.val := by omega
    have w4 : (512 + r.val) % 512 = r.val := by omega
    rw [w1, w2, w3, w4, Nat.add_zero]
  simp only [hm]
  rfl

include h3 h4 in
/-- The gate's logits of a query of the tile. -/
theorem logitF_e (r : Fin 512) (j : Fin 32) : logitF a x3 x4 r j = logit P b g (a * 512 + r) j := by
  rw [logitF, logit]
  simp only [h3, h4]

/-- The logarithm of a softmax over 32 entries, of a function of naturals. -/
theorem lsmF_e (x : ℕ → EReal) (y : Fin 32 → EReal) (h : ∀ j, y j = x j) (j : Fin 32) : lsmF y j = lsm x j := by
  obtain rfl : y = fun j : Fin 32 => x j := funext h
  rfl

include hqr hkr ha h0 h1 h2 in
/-- The attention left at a grid point. -/
theorem out_5 (c : Dev nD) (t : Fin grid1.N) (et : t.val % 4 = a) (arg2 : Memref sig .tc .vmem S1x1x512x256 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x32x128 .bf16) (harg6 : arg6.IsWhole) (arg7 : Memref sig .tc .vmem S1x1x512x256 .bf16) (harg7 : arg7.IsWhole) (arg8 : Memref sig .tc .vmem S1x1x128 .f32) (harg8 : arg8.IsWhole)
    (r : Fin 512) (j : Fin 256) :
    out1_A_5 c (grid1.coords t) arg2 harg2 arg3 harg3 arg4 harg4 arg5 harg5 arg6 harg6 arg7 harg7 arg8 harg8 x0 x1 x2 x3 x4 (ix4 0 0 r j)
      = attn P b (g * 2 + j / 128) (a * 512 + r) (j % 128 : ℕ) := by
  obtain ⟨st, s0, ss, e5, e6⟩ := run_out c (grid1.coords t) arg2 harg2 arg3 harg3 arg4 harg4 arg5 harg5 arg6 harg6 arg7 harg7 arg8 harg8 x0 x1 x2 x3 x4 (trips2 t)
  unfold out1_A_5
  rw [View.read_writes_junk_eq_canon, e5, View.canon_cons_unit_lit _ _ _ (by decide)]
  have hi := inv_all P hqr hkr b g a ha x0 x1 x2 h0 h1 h2 t et st s0 ss a le_rfl
  rw [trips1 t, et]
  rw [out5F_e (tQ P b g a) (tK P b g) (tV P b g) a (fun r k => by rw [sc_eq]; exact score_top P hqr hkr _ _ _ _) (fun r => by rw [sc_eq]; exact score_bot P hqr hkr _ _ _)
    ha _ _ _ _ (tq_e P b g a x0 h0)
    (fun k d => by rw [chunk_e x1 _ _ a (by rw [off3 t, et]) ha, h1]; rfl)
    (fun k d => by rw [chunk_e x2 _ _ a (by rw [off3 t, et]) ha, h2]; rfl) hi]
  have e : sc (tQ P b g a) (tK P b g) a (j / 128 * 512 + r) = score P b (g * 2 + j / 128) (a * 512 + r) := by
    funext k
    rw [sc_eq]
    congr 1 <;> omega
  have eg : (g * 2 + j.val / 128) / 2 = g := by omega
  rw [e, attn, eg]
  rfl

include hqr hkr ha h0 h1 h2 h3 h4 in
/-- The part of the loss left at a grid point. -/
theorem out_6 (c : Dev nD) (t : Fin grid1.N) (et : t.val % 4 = a) (arg2 : Memref sig .tc .vmem S1x1x512x256 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x512x128 .bf16) (harg5 : arg5.IsWhole) (arg6 : Memref sig .tc .vmem S1x1x32x128 .bf16) (harg6 : arg6.IsWhole) (arg7 : Memref sig .tc .vmem S1x1x512x256 .bf16) (harg7 : arg7.IsWhole) (arg8 : Memref sig .tc .vmem S1x1x128 .f32) (harg8 : arg8.IsWhole)
    (u v : Fin 1) (j : Fin 128) :
    out1_A_6 c (grid1.coords t) arg2 harg2 arg3 harg3 arg4 harg4 arg5 harg5 arg6 harg6 arg7 harg7 arg8 harg8 x0 x1 x2 x3 x4 (ix3 u v j)
      = klTile P b g a := by
  obtain ⟨st, s0, ss, e5, e6⟩ := run_out c (grid1.coords t) arg2 harg2 arg3 harg3 arg4 harg4 arg5 harg5 arg6 harg6 arg7 harg7 arg8 harg8 x0 x1 x2 x3 x4 (trips2 t)
  unfold out1_A_6
  rw [View.read_writes_junk_eq_canon, e6, View.canon_cons_unit_lit _ _ _ (by decide)]
  have hi := inv_all P hqr hkr b g a ha x0 x1 x2 h0 h1 h2 t et st s0 ss a le_rfl
  rw [trips1 t, arg1_eq t, et, pay60_e a ha, klTile]
  refine Finset.sum_congr rfl fun r _ => Finset.sum_congr rfl fun k _ => ?_
  rw [gtF_e P hqr hkr b g a ha x0 x1 h0 h1 t et _ hi, lsmF_e _ _ (logitF_e P b g a x3 x4 h3 h4 r)]
  rfl
end
end Cert.KV
-- ==== Proof.Reg1.lean ====
/- The arrays the flash kernel and the output kernel leave, of the arrays they read. -/
module
public import proofs.«01_k».proof.Proof.Gen.KernelIdeal.Frame
public import proofs.«01_k».proof.Proof.Tile2
public import Idealize.ShloMosaic.Lib.Pipeline.ValueKit.Point
@[expose] public section
set_option maxRecDepth 16384
noncomputable section
namespace Cert.KV
open Cert.KernelIdeal Cert.KernelIdeal.Gen Idealize.ShloMosaic Idealize.ShloMosaic.TcCoe Cert.Spec Cert.Row

/-- The block index of window 0 of the flash kernel at each grid point. -/
theorem e1_0 : ∀ t : Fin cfg1.N, win1_0.index t = ![t.val / 32, t.val / 4 % 8, t.val % 4, 0] := (by decide +kernel : ∀ t : Fin grid1.N, _)
/-- The block index of window 1 of the flash kernel at each grid point. -/
theorem e1_1 : ∀ t : Fin cfg1.N, win1_1.index t = ![t.val / 32, t.val / 4 % 8, 0, 0] := (by decide +kernel : ∀ t : Fin grid1.N, _)
/-- The block index of window 2 of the flash kernel at each grid point. -/
theorem e1_2 : ∀ t : Fin cfg1.N, win1_2.index t = ![t.val / 32, t.val / 4 % 8, 0, 0] := (by decide +kernel : ∀ t : Fin grid1.N, _)
/-- The block index of window 3 of the flash kernel at each grid point. -/
theorem e1_3 : ∀ t : Fin cfg1.N, win1_3.index t = ![t.val / 32, t.val / 4 % 8, t.val % 4, 0] := (by decide +kernel : ∀ t : Fin grid1.N, _)
/-- The block index of window 4 of the flash kernel at each grid point. -/
theorem e1_4 : ∀ t : Fin cfg1.N, win1_4.index t = ![t.val / 32, t.val / 4 % 8, 0, 0] := (by decide +kernel : ∀ t : Fin grid1.N, _)
/-- The block index of window 5 of the flash kernel at each grid point. -/
theorem e1_5 : ∀ t : Fin cfg1.N, win1_5.index t = ![t.val / 32, t.val / 4 % 8, t.val % 4, 0] := (by decide +kernel : ∀ t : Fin grid1.N, _)
/-- The block index of window 6 of the flash kernel at each grid point. -/
theorem e1_6 : ∀ t : Fin cfg1.N, win1_6.index t = ![t.val, 0, 0] := (by decide +kernel : ∀ t : Fin grid1.N, _)
/-- The block index of window 0 of the output kernel at each grid point. -/
theorem e2_0 : ∀ t : Fin cfg2.N, win2_0.index t = ![t.val, 0] := (by decide +kernel : ∀ t : Fin grid2.N, _)
/-- The block index of window 1 of the output kernel at each grid point. -/
theorem e2_1 : ∀ t : Fin cfg2.N, win2_1.index t = ![0, 0] := (by decide +kernel : ∀ t : Fin grid2.N, _)
/-- The block index of window 2 of the output kernel at each grid point. -/
theorem e2_2 : ∀ t : Fin cfg2.N, win2_2.index t = ![t.val, 0] := (by decide +kernel : ∀ t : Fin grid2.N, _)

variable (V : (c : Dev nD) → (b : Ref sig .tc) → Buf (Elt Ideal) ((c.tc : Thread nD τ).loc b)) (c : Dev nD)

/-- The flash kernel's query block, read in its array. -/
theorem b1_0 (t : Fin cfg1.N) (r : Fin 512) (k : Fin 256) :
    (iblk1 V c 0 t : Vec Ideal S1x1x512x256 .bf16) (ix4 0 0 r k) = (V c main_v12 : Vec Ideal S2x8x2048x256 .bf16)
      (ix4 ⟨t.val / 32, by have := t.isLt; change _ < 64 at this; omega⟩ ⟨t.val / 4 % 8, by omega⟩ ⟨t.val % 4 * 512 + r, by omega⟩ k) := by
  blk_ext! [iblk1, e1_0 t]
/-- The flash kernel's key block, read in its array. -/
theorem b1_1 (t : Fin cfg1.N) (r : Fin 2048) (k : Fin 128) :
    (iblk1 V c 1 t : Vec Ideal S1x1x2048x128 .bf16) (ix4 0 0 r k) = (V c main_v14 : Vec Ideal S2x8x2048x128 .bf16)
      (ix4 ⟨t.val / 32, by have := t.isLt; change _ < 64 at this; omega⟩ ⟨t.val / 4 % 8, by omega⟩ r k) := by
  blk_ext! [iblk1, e1_1 t]
/-- The flash kernel's value block, read in its array. -/
theorem b1_2 (t : Fin cfg1.N) (r : Fin 2048) (k : Fin 128) :
    (iblk1 V c 2 t : Vec Ideal S1x1x2048x128 .bf16) (ix4 0 0 r k) = (V c main_v16 : Vec Ideal S2x8x2048x128 .bf16)
      (ix4 ⟨t.val / 32, by have := t.isLt; change _ < 64 at this; omega⟩ ⟨t.val / 4 % 8, by omega⟩ r k) := by
  blk_ext! [iblk1, e1_2 t]
/-- The flash kernel's gate query block, read in its array. -/
theorem b1_3 (t : Fin cfg1.N) (r : Fin 512) (k : Fin 128) :
    (iblk1 V c 3 t : Vec Ideal S1x1x512x128 .bf16) (ix4 0 0 r k) = (V c main_v18 : Vec Ideal S2x8x2048x128 .bf16)
      (ix4 ⟨t.val / 32, by have := t.isLt; change _ < 64 at this; omega⟩ ⟨t.val / 4 % 8, by omega⟩ ⟨t.val % 4 * 512 + r, by omega⟩ k) := by
  blk_ext! [iblk1, e1_3 t]
/-- The flash kernel's gate key block, read in its array. -/
theorem b1_4 (t : Fin cfg1.N) (r : Fin 32) (k : Fin 128) :
    (iblk1 V c 4 t : Vec Ideal S1x1x32x128 .bf16) (ix4 0 0 r k) = (V c main_v20 : Vec Ideal S2x8x32x128 .bf16)
      (ix4 ⟨t.val / 32, by have := t.isLt; change _ < 64 at this; omega⟩ ⟨t.val / 4 % 8, by omega⟩ r k) := by
  blk_ext! [iblk1, e1_4 t]
/-- The output kernel's attention block, read in its array. -/
theorem b2_0 (t : Fin cfg2.N) (r : Fin 512) (k : Fin 2048) :
    (iblk2 V c 0 t : Vec Ideal S512x2048 .bf16) (ix2 r k) = (V c main_v23 : Vec Ideal S4096x2048 .bf16) (ix2 ⟨t.val * 512 + r, by have := t.isLt; change _ < 8 at this; omega⟩ k) := by
  blk_ext! [iblk2, e2_0 t]
/-- The output kernel's weight block is its array. -/
theorem b2_1 (t : Fin cfg2.N) :
    (iblk2 V c 1 t : Vec Ideal S2048x2048 .bf16) = (V c main_v24 : Vec Ideal S2048x2048 .bf16) := by
  blk_ext! [iblk2, e2_1 t]

/-- The arrays the flash kernel reads hold the heads of `P`. -/
structure H1 (P : In) : Prop where
  w0 : ∀ b g s j, (V c main_v12 : Vec Ideal S2x8x2048x256 .bf16) (ix4 b g s j) = qr P (b * 2048 + s) (g * 2 + j / 128) (j % 128 : ℕ)
  w1 : ∀ b g s d, (V c main_v14 : Vec Ideal S2x8x2048x128 .bf16) (ix4 b g s d) = kr P (b * 2048 + s) g d
  w2 : ∀ b g s d, (V c main_v16 : Vec Ideal S2x8x2048x128 .bf16) (ix4 b g s d) = vv P (b * 2048 + s) g d
  w3 : ∀ b g s d, (V c main_v18 : Vec Ideal S2x8x2048x128 .bf16) (ix4 b g s d) = qg P (b * 2048 + s) g d
  w4 : ∀ b g s d, (V c main_v20 : Vec Ideal S2x8x32x128 .bf16) (ix4 b g s d) = kg P (b * 32 + s) g d

variable {V c} {P : In}

section
variable (H : H1 V c P) (hqr : ∀ t n d, d < 128 → IsR (qr P t n d)) (hkr : ∀ t n d, d < 128 → IsR (kr P t n d))
include H hqr hkr

/-- The attention array. -/
theorem final1_5 : (dat1 V c).arrAt 5 cfg1.N = (fun i => attn P (i 0).val ((i 1).val * 2 + (i 3).val / 128) (i 2).val ((i 3).val % 128) : Vec Ideal S2x8x2048x256 .bf16) := by
  refine (dat1 V c).arrAt_eq_of_covers 5 _ (by decide +kernel) fun t hf y => ?_
  blk_simp [e1_5 t]
  rw [after1_5]
  unfold outsAt1
  dsimp only
  obtain ⟨p, q, r, j, rfl⟩ : ∃ p q : Fin 1, ∃ r : Fin 512, ∃ j : Fin 256, y = ix4 p q r j := ⟨y 0, y 1, y 2, y 3, by ext a; fin_cases a <;> rfl⟩
  obtain rfl := Subsingleton.elim p 0
  obtain rfl := Subsingleton.elim q 0
  refine (out_5 P hqr hkr (t.val / 32) (t.val / 4 % 8) (t.val % 4) (Nat.mod_lt _ (by decide)) _ _ _ _ _ (fun r j => ?_) (fun k d => ?_) (fun k d => ?_) c t rfl _ _ _ _ _ _ _ _ _ _ _ _ _ _ r j).trans ?_
  · rw [b1_0, H.w0]
  · rw [b1_1, H.w1]
  · rw [b1_2, H.w2]
  · simp

/-- The array of the tiles' parts of the loss. -/
theorem final1_6 : (dat1 V c).arrAt 6 cfg1.N = (fun i => klTile P ((i 0).val / 32) ((i 0).val / 4 % 8) ((i 0).val % 4) : Vec Ideal S64x1x128 .f32) := by
  refine (dat1 V c).arrAt_eq_of_covers 6 _ (by decide +kernel) fun t hf y => ?_
  blk_simp [e1_6 t]
  rw [after1_6]
  unfold outsAt1
  dsimp only
  obtain ⟨u, v, j, rfl⟩ : ∃ u v : Fin 1, ∃ j : Fin 128, y = ix3 u v j := ⟨y 0, y 1, y 2, by ext a; fin_cases a <;> rfl⟩
  refine (out_6 P hqr hkr (t.val / 32) (t.val / 4 % 8) (t.val % 4) (Nat.mod_lt _ (by decide)) _ _ _ _ _ (fun r j => ?_) (fun k d => ?_) (fun k d => ?_) (fun k d => ?_) (fun k d => ?_) c t rfl _ _ _ _ _ _ _ _ _ _ _ _ _ _ u v j).trans ?_
  · rw [b1_0, H.w0]
  · rw [b1_1, H.w1]
  · rw [b1_2, H.w2]
  · rw [b1_3, H.w3]
  · rw [b1_4, H.w4]
  · simp
end

/-- The output kernel's array. -/
theorem final2_2 (h0 : ∀ t j, (V c main_v23 : Vec Ideal S4096x2048 .bf16) (ix2 t j) = attn P (t / 2048 : ℕ) (j / 128) (t % 2048 : ℕ) (j % 128 : ℕ))
    (h1 : ∀ k j, (V c main_v24 : Vec Ideal S2048x2048 .bf16) (ix2 k j) = P.wo k j) :
    (dat2 V c).arrAt 2 cfg2.N = (fun i => outp P (i 0).val (i 1).val : Vec Ideal S4096x2048 .f32) := by
  refine (dat2 V c).arrAt_eq_of_covers 2 _ (by decide +kernel) fun t hf y => ?_
  blk_simp [e2_2 t]
  rw [after2_2]
  unfold out2_2
  rw [View.canon_cons_unit_lit _ _ _ (by decide)]
  rw [View.ld_unit_lit _ _ (by decide), View.ld_unit_lit _ _ (by decide)]
  obtain ⟨r, j, rfl⟩ : ∃ r : Fin 512, ∃ j : Fin 2048, y = ix2 r j := ⟨y 0, y 1, by ext a; fin_cases a <;> rfl⟩
  pointwise [k2_pay1]
  rw [b2_1]
  simp only [b2_0, h0, h1]
  rfl
end Cert.KV
-- ==== Proof.Inp.lean ====
/- The specification's arrays, read from the argument arrays. -/
module
public import proofs.«01_k».proof.Proof.Spec2
public import proofs.«01_k».proof.KernelIdeal
@[expose] public section
noncomputable section
namespace Cert.KV
open Cert.KernelIdeal Idealize.ShloMosaic Idealize.ShloMosaic.TcCoe Cert.Spec

/-- A matrix by natural-number indices, zero outside. -/
def nat2 {a b : ℕ} (f : Fin a → Fin b → EReal) (i j : ℕ) : EReal :=
  if h : i < a ∧ j < b then f ⟨i, h.1⟩ ⟨j, h.2⟩ else 0
/-- A vector by natural-number indices, zero outside. -/
def nat1 {a : ℕ} (f : Fin a → EReal) (i : ℕ) : EReal := if h : i < a then f ⟨i, h⟩ else 0

/-- Within its bounds the matrix is read as it is. -/
theorem nat2_e {a b : ℕ} (f : Fin a → Fin b → EReal) (i : Fin a) (j : Fin b) : nat2 f i j = f i j := by
  rw [nat2, dif_pos ⟨i.isLt, j.isLt⟩]
/-- Within its bounds the vector is read as it is. -/
theorem nat1_e {a : ℕ} (f : Fin a → EReal) (i : Fin a) : nat1 f i = f i := by
  rw [nat1, dif_pos i.isLt]

/-- The specification's arrays of the argument arrays. -/
def inP (x0 : Vec Ideal S4096x2048 .f32) (x1 x2 x3 x4 : Vec Ideal S4096x128 .f32) (x5 x6 : Vec Ideal S32x128 .f32)
    (x9 : Vec Ideal S2048x2048 .f32) (x10 x11 : Vec Ideal S2048x1024 .f32) (x12 : Vec Ideal S2048x2048 .f32)
    (x13 x14 : Vec Ideal S128 .f32) (x15 : Vec Ideal S128x128 .f32) (x16 : Vec Ideal S256x128 .f32) : In where
  h := nat2 fun i j => x0 (ix2 i j)
  cos := nat2 fun i j => x1 (ix2 i j)
  sin := nat2 fun i j => x2 (ix2 i j)
  cg := nat2 fun i j => x3 (ix2 i j)
  sg := nat2 fun i j => x4 (ix2 i j)
  bc := nat2 fun i j => x5 (ix2 i j)
  bs := nat2 fun i j => x6 (ix2 i j)
  wq := nat2 fun i j => x9 (ix2 i j)
  wk := nat2 fun i j => x10 (ix2 i j)
  wv := nat2 fun i j => x11 (ix2 i j)
  wo := nat2 fun i j => x12 (ix2 i j)
  qw := nat1 fun i => x13 (ix1 i)
  kw := nat1 fun i => x14 (ix1 i)
  gq := nat2 fun i j => x15 (ix2 i j)
  gk := nat2 fun i j => x16 (ix2 i j)

/-- The specification's arrays of a launch memory. -/
def inM (m : (ℓ : Loc nD τ sig) → Buf (Elt Ideal) ℓ) (c : Dev nD) : In :=
  inP (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg9))
    (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))

/-- The loss: the tiles' parts together, over `2^20`. -/
def lossP (P : In) : EReal :=
  (∑ t : Fin 64, klTile P (t / 32) (t / 4 % 8) (t % 4)) * Ideal.ofBits .f32 0x35800000#32
end Cert.KV
end
-- ==== Proof.Host.lean ====
/- The arrays between the kernels: what each kernel reads and what the program's results hold. -/
module
public import proofs.«01_k».proof.Proof.Reg0
public import proofs.«01_k».proof.Proof.Reg1
public import proofs.«01_k».proof.Proof.Inp
@[expose] public section
set_option maxRecDepth 16384
noncomputable section
namespace Cert.KV
open Cert.KernelIdeal Cert.KernelIdeal.Gen Idealize.ShloMosaic Idealize.ShloMosaic.TcCoe Cert.Spec Cert.Row
variable (m : (ℓ : Loc nD τ sig) → Buf (Elt Ideal) ℓ) (ρ : Dev nD → PrngReg) (c : Dev nD)

/-- The projection kernel reads the argument arrays. -/
theorem h0 : H0 (V1 m ρ) c (inM m c) where
  w0 r k := by
    refine Eq.trans ?_ (nat2_e (fun i j => (m ((c : Thread nD τ).loc main_arg0) : Vec Ideal S4096x2048 .f32) (ix2 i j)) r k).symm
    change (StableHlo.after hostOps0 (W0 m ρ c) (Proc.devRef .tc main_v0) : Vec Ideal S4096x2048 .bf16) (ix2 r k) = _
    entry_read
    pointwise
  w1 r k := (congrFun (W1_args m ρ c main_arg1 (by decide)) _).trans (nat2_e (fun i j => (m ((c : Thread nD τ).loc main_arg1) : Vec Ideal S4096x128 .f32) (ix2 i j)) r k).symm
  w2 r k := (congrFun (W1_args m ρ c main_arg2 (by decide)) _).trans (nat2_e (fun i j => (m ((c : Thread nD τ).loc main_arg2) : Vec Ideal S4096x128 .f32) (ix2 i j)) r k).symm
  w3 r k := (congrFun (W1_args m ρ c main_arg3 (by decide)) _).trans (nat2_e (fun i j => (m ((c : Thread nD τ).loc main_arg3) : Vec Ideal S4096x128 .f32) (ix2 i j)) r k).symm
  w4 r k := (congrFun (W1_args m ρ c main_arg4 (by decide)) _).trans (nat2_e (fun i j => (m ((c : Thread nD τ).loc main_arg4) : Vec Ideal S4096x128 .f32) (ix2 i j)) r k).symm
  w5 r z k := by
    refine Eq.trans ?_ (nat2_e (fun i j => (m ((c : Thread nD τ).loc main_arg5) : Vec Ideal S32x128 .f32) (ix2 i j)) r k).symm
    change (StableHlo.after hostOps0 (W0 m ρ c) (Proc.devRef .tc main_v1) : Vec Ideal S32x1x128 .f32) (ix3 r z k) = _
    entry_read
    pointwise
  w6 r z k := by
    refine Eq.trans ?_ (nat2_e (fun i j => (m ((c : Thread nD τ).loc main_arg6) : Vec Ideal S32x128 .f32) (ix2 i j)) r k).symm
    change (StableHlo.after hostOps0 (W0 m ρ c) (Proc.devRef .tc main_v2) : Vec Ideal S32x1x128 .f32) (ix3 r z k) = _
    entry_read
    pointwise
  w7 r k := by
    refine Eq.trans ?_ (nat2_e (fun i j => (m ((c : Thread nD τ).loc main_arg9) : Vec Ideal S2048x2048 .f32) (ix2 i j)) r k).symm
    change (StableHlo.after hostOps0 (W0 m ρ c) (Proc.devRef .tc main_v3) : Vec Ideal S2048x2048 .bf16) (ix2 r k) = _
    entry_read
    pointwise
  w8 r k := by
    refine Eq.trans ?_ (nat2_e (fun i j => (m ((c : Thread nD τ).loc main_arg10) : Vec Ideal S2048x1024 .f32) (ix2 i j)) r k).symm
    change (StableHlo.after hostOps0 (W0 m ρ c) (Proc.devRef .tc main_v4) : Vec Ideal S2048x1024 .bf16) (ix2 r k) = _
    entry_read
    pointwise
  w9 r k := by
    refine Eq.trans ?_ (nat2_e (fun i j => (m ((c : Thread nD τ).loc main_arg11) : Vec Ideal S2048x1024 .f32) (ix2 i j)) r k).symm
    change (StableHlo.after hostOps0 (W0 m ρ c) (Proc.devRef .tc main_v5) : Vec Ideal S2048x1024 .bf16) (ix2 r k) = _
    entry_read
    pointwise
  w10 r k := by
    refine Eq.trans ?_ (nat1_e (fun i => (m ((c : Thread nD τ).loc main_arg13) : Vec Ideal S128 .f32) (ix1 i)) k).symm
    change (StableHlo.after hostOps0 (W0 m ρ c) (Proc.devRef .tc main_v6) : Vec Ideal S1x128 .f32) (ix2 r k) = _
    entry_read
    pointwise
  w11 r k := by
    refine Eq.trans ?_ (nat1_e (fun i => (m ((c : Thread nD τ).loc main_arg14) : Vec Ideal S128 .f32) (ix1 i)) k).symm
    change (StableHlo.after hostOps0 (W0 m ρ c) (Proc.devRef .tc main_v7) : Vec Ideal S1x128 .f32) (ix2 r k) = _
    entry_read
    pointwise
  w12 r k := by
    refine Eq.trans ?_ (nat2_e (fun i j => (m ((c : Thread nD τ).loc main_arg15) : Vec Ideal S128x128 .f32) (ix2 i j)) r k).symm
    change (StableHlo.after hostOps0 (W0 m ρ c) (Proc.devRef .tc main_v8) : Vec Ideal S128x128 .bf16) (ix2 r k) = _
    entry_read
    pointwise
  w13 r k := by
    refine Eq.trans ?_ (nat2_e (fun i j => (m ((c : Thread nD τ).loc main_arg16) : Vec Ideal S256x128 .f32) (ix2 i j)) r k).symm
    change (StableHlo.after hostOps0 (W0 m ρ c) (Proc.devRef .tc main_v9) : Vec Ideal S256x128 .bf16) (ix2 r k) = _
    entry_read
    pointwise

/-- The flash kernel reads the projected heads. -/
theorem h1 : H1 (V3 m ρ) c (inM m c) where
  w0 b g s j := by
    have e : W2 m ρ c (Proc.devRef .tc main_v10_0) = _ := (W2_arr m ρ c 14).trans (final0_14 (h0 m ρ c))
    change (StableHlo.after hostOps1 (W2 m ρ c) (Proc.devRef .tc main_v12) : Vec Ideal S2x8x2048x256 .bf16) (ix4 b g s j) = _
    entry_read
    rw [e]
    pointwise
    congr 1 <;> omega
  w1 b g s j := by
    have e : W2 m ρ c (Proc.devRef .tc main_v10_1) = _ := (W2_arr m ρ c 15).trans (final0_15 (h0 m ρ c))
    change (StableHlo.after hostOps1 (W2 m ρ c) (Proc.devRef .tc main_v14) : Vec Ideal S2x8x2048x128 .bf16) (ix4 b g s j) = _
    entry_read
    rw [e]
    pointwise
    congr 1 <;> omega
  w2 b g s j := by
    have e : W2 m ρ c (Proc.devRef .tc main_v10_2) = _ := (W2_arr m ρ c 16).trans (final0_16 (h0 m ρ c))
    change (StableHlo.after hostOps1 (W2 m ρ c) (Proc.devRef .tc main_v16) : Vec Ideal S2x8x2048x128 .bf16) (ix4 b g s j) = _
    entry_read
    rw [e]
    pointwise
    congr 1 <;> omega
  w3 b g s j := by
    have e : W2 m ρ c (Proc.devRef .tc main_v10_3) = _ := (W2_arr m ρ c 17).trans (final0_17 (h0 m ρ c))
    change (StableHlo.after hostOps1 (W2 m ρ c) (Proc.devRef .tc main_v18) : Vec Ideal S2x8x2048x128 .bf16) (ix4 b g s j) = _
    entry_read
    rw [e]
    pointwise
    congr 1 <;> omega
  w4 b g s j := by
    have e : W2 m ρ c (Proc.devRef .tc main_v10_4) = _ := (W2_arr m ρ c 18).trans (final0_18 (h0 m ρ c))
    change (StableHlo.after hostOps1 (W2 m ρ c) (Proc.devRef .tc main_v20) : Vec Ideal S2x8x32x128 .bf16) (ix4 b g s j) = _
    entry_read
    rw [e]
    pointwise
    congr 1 <;> omega

variable (hF : Fin' (inM m c))
include hF

/-- The attention, packed for the output kernel. -/
theorem v23_e (t : Fin 4096) (j : Fin 2048) : (V5 m ρ c main_v23 : Vec Ideal S4096x2048 .bf16) (ix2 t j)
    = attn (inM m c) (t / 2048 : ℕ) (j / 128) (t % 2048 : ℕ) (j % 128 : ℕ) := by
  have e : W4 m ρ c (Proc.devRef .tc main_v21_0) = _ := (W4_arr m ρ c 5).trans (final1_5 (h1 m ρ c) (qr_real _ hF) (kr_real _ hF))
  change (StableHlo.after hostOps2 (W4 m ρ c) (Proc.devRef .tc main_v23) : Vec Ideal S4096x2048 .bf16) (ix2 t j) = _
  entry_read
  rw [e]
  pointwise
  congr 1 <;> omega

omit hF in
/-- The output weights, as the output kernel reads them. -/
theorem v24_e (k j : Fin 2048) : (V5 m ρ c main_v24 : Vec Ideal S2048x2048 .bf16) (ix2 k j) = (inM m c).wo k j := by
  refine Eq.trans ?_ (nat2_e (fun i j => (m ((c : Thread nD τ).loc main_arg12) : Vec Ideal S2048x2048 .f32) (ix2 i j)) k j).symm
  have e : W4 m ρ c (Proc.devRef .tc main_arg12) = _ := W4_args m ρ c main_arg12 (by decide)
  change (StableHlo.after hostOps2 (W4 m ρ c) (Proc.devRef .tc main_v24) : Vec Ideal S2048x2048 .bf16) (ix2 k j) = _
  entry_read
  rw [e]
  pointwise

/-- The first result. -/
theorem v25_e : W7 m ρ c (Proc.devRef .tc main_v25) = (fun i => outp (inM m c) (i 0).val (i 1).val : Vec Ideal S4096x2048 .f32) := by
  rw [W7_of m ρ c main_v25 (by decide)]
  exact (W6_arr m ρ c 2).trans (final2_2 (v23_e m ρ c hF) (v24_e m ρ c))

/-- The second result. -/
theorem v29_e : W7 m ρ c (Proc.devRef .tc main_v29) = (fun _ => lossP (inM m c) : Vec Ideal S_ .f32) := by
  have e : W6 m ρ c (Proc.devRef .tc main_v21_1) = _ := (W6_of m ρ c main_v21_1 (by decide)).trans ((W5_of m ρ c main_v21_1 (by decide)).trans
    ((W4_arr m ρ c 6).trans (final1_6 (h1 m ρ c) (qr_real _ hF) (kr_real _ hF))))
  change (StableHlo.after hostOps3 (W6 m ρ c) (Proc.devRef .tc main_v29) : Vec Ideal S_ .f32) = _
  entry_read
  rw [e]
  funext i
  pointwise
  rfl
end Cert.KV
-- ==== Proof.KRun.lean ====
/- The run of the kernel's program: both results as functions of the argument arrays. -/
module
public import proofs.«01_k».proof.Proof.Host
@[expose] public section
set_option maxRecDepth 16384
noncomputable section
namespace Cert.KV
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Cert.Row
variable (m : (ℓ : Loc nD τ sig) → Buf (Elt Ideal) ℓ) (ρ : Dev nD → PrngReg)

set_option backward.isDefEq.respectTransparency.types false in
/-- The kernel's program ends with the attention's output projection and the loss of the argument arrays, and the
    arguments unchanged. -/
theorem run (hF : ∀ c, Fin' (inM m c)) : θ_run defs (onTc (τ := τ) (main (F := Ideal))) ⟨m, fun _ => 0, ρ⟩ (fun r => ∀ c : Dev nD,
      r.2.mem ((c.tc : Thread nD τ).loc main_v25) = (fun i => outp (inM m c) (i 0).val (i 1).val : Vec Ideal S4096x2048 .f32)
      ∧ r.2.mem ((c.tc : Thread nD τ).loc main_v29) = (fun _ => lossP (inM m c) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨(h c _ (mem_uc main_v25 (by decide))).trans (v25_e m ρ c (hF c)),
       (h c _ (mem_uc main_v29 (by decide))).trans (v29_e m ρ c (hF c)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)
end Cert.KV
-- ==== Proof.Ref1.lean ====
/- The reference's projections and normalised heads are the specification's. -/
module
public import proofs.«01_k».proof.Proof.Gen.ReferenceIdeal.Read
public import proofs.«01_k».proof.Proof.Spec2
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- The rotation, with the half turned round written as a negation. -/
theorem rope_neg (f c s : ℕ → EReal) (d : ℕ) :
    f d * c d + (if h : d < 64 then - f (64 + d) else f (d - 64)) * s d = rope f c s d := by
  rw [rope, zero_sub, dite_eq_ite]

/-- The bits of the smallest float are the bottom. -/
theorem bot_bits : Ideal.ofBits .f32 4286578688#32 = ⊥ := by simp [Ideal.ofBits, Ideal.ieee]

/-- The query projection. -/
theorem s_v1 (x0 : Vec Ideal S4096x2048 .f32) (x9 : Vec Ideal S2048x2048 .f32) (h0 : ∀ i j, x0 (ix2 i j) = P.h i j) (h9 : ∀ i j, x9 (ix2 i j) = P.wq i j) (t : Fin 4096) (n : Fin 16) (d : Fin 128) :
    val_main_v1 x0 x9 (ix3 t n d) = lin 2048 (P.h t) P.wq (n * 128 + d) := by
  pointwise [val_main_v0, val_main_v1]
  simp only [h0, h9]
  rfl

/-- The key projection. -/
theorem s_v3 (x0 : Vec Ideal S4096x2048 .f32) (x10 : Vec Ideal S2048x1024 .f32) (h0 : ∀ i j, x0 (ix2 i j) = P.h i j) (h10 : ∀ i j, x10 (ix2 i j) = P.wk i j) (t : Fin 4096) (n : Fin 8) (d : Fin 128) :
    val_main_v3 x0 x10 (ix3 t n d) = lin 2048 (P.h t) P.wk (n * 128 + d) := by
  pointwise [val_main_v2, val_main_v3]
  simp only [h0, h10]
  rfl

/-- The value heads. -/
theorem s_v5 (x0 : Vec Ideal S4096x2048 .f32) (x11 : Vec Ideal S2048x1024 .f32) (h0 : ∀ i j, x0 (ix2 i j) = P.h i j) (h11 : ∀ i j, x11 (ix2 i j) = P.wv i j) (t : Fin 4096) (n : Fin 8) (d : Fin 128) :
    val_main_v5 x0 x11 (ix3 t n d) = vv P t n d := by
  pointwise [val_main_v4, val_main_v5]
  simp only [h0, h11]
  rfl

/-- The normalised query heads. -/
theorem s_v18 (x0 : Vec Ideal S4096x2048 .f32) (x9 : Vec Ideal S2048x2048 .f32) (x13 : Vec Ideal S128 .f32) (h0 : ∀ i j, x0 (ix2 i j) = P.h i j) (h9 : ∀ i j, x9 (ix2 i j) = P.wq i j) (h13 : ∀ i, x13 (ix1 i) = P.qw i) (t : Fin 4096) (n : Fin 16) (d : Fin 128) :
    val_main_v18 x0 x9 x13 (ix3 t n d) = qn P t n d := by
  pointwise [val_main_v6, val_main_cst, val_main_v7, val_main_v8, val_main_cst_0, val_main_v9, val_main_v10, val_main_cst_1, val_main_v11, val_main_v12, val_main_v13, val_main_v14, val_main_v15, val_main_v16, val_main_v17, val_main_v18]
  simp only [s_v1 P x0 x9 h0 h9, h13]
  exact mul_comm _ _

/-- The normalised key heads. -/
theorem s_v31 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (t : Fin 4096) (n : Fin 8) (d : Fin 128) :
    val_main_v31 x0 x10 x14 (ix3 t n d) = kn P t n d := by
  pointwise [val_main_v19, val_main_cst_2, val_main_v20, val_main_v21, val_main_cst_3, val_main_v22, val_main_v23, val_main_cst_4, val_main_v24, val_main_v25, val_main_v26, val_main_v27, val_main_v28, val_main_v29, val_main_v30, val_main_v31]
  simp only [s_v3 P x0 x10 h0 h10, h14]
  exact mul_comm _ _

/-- The mean of a group's query heads. -/
theorem s_v35 (x0 : Vec Ideal S4096x2048 .f32) (x9 : Vec Ideal S2048x2048 .f32) (x13 : Vec Ideal S128 .f32) (h0 : ∀ i j, x0 (ix2 i j) = P.h i j) (h9 : ∀ i j, x9 (ix2 i j) = P.wq i j) (h13 : ∀ i, x13 (ix1 i) = P.qw i) (t : Fin 4096) (n : Fin 8) (d : Fin 128) :
    val_main_v35 x0 x9 x13 (ix3 t n d) = qgm P t n d := by
  pointwise [val_main_v32, val_main_cst_5, val_main_v33, val_main_cst_6, val_main_v34, val_main_v35]
  simp only [s_v18 P x0 x9 x13 h0 h9 h13]
  rfl

/-- The rotated queries of the gate. -/
theorem s_v46 (x0 : Vec Ideal S4096x2048 .f32) (x3 : Vec Ideal S4096x128 .f32) (x4 : Vec Ideal S4096x128 .f32) (x9 : Vec Ideal S2048x2048 .f32) (x13 : Vec Ideal S128 .f32) (h0 : ∀ i j, x0 (ix2 i j) = P.h i j) (h3 : ∀ i j, x3 (ix2 i j) = P.cg i j) (h4 : ∀ i j, x4 (ix2 i j) = P.sg i j) (h9 : ∀ i j, x9 (ix2 i j) = P.wq i j) (h13 : ∀ i, x13 (ix1 i) = P.qw i) (t : Fin 4096) (n : Fin 8) (d : Fin 128) :
    val_main_v46 x0 x3 x4 x9 x13 (ix3 t n d) = rope (qgm P t n) (P.cg t) (P.sg t) d := by
  pointwise [val_main_v36, val_main_v37, val_main_v38, val_main_v39, val_main_v40, val_main_v41, val_main_v42, val_main_v43, val_main_v44, val_main_v45, val_main_v46]
  simp only [s_v35 P x0 x9 x13 h0 h9 h13, h3, h4]
  exact rope_neg _ _ _ _

/-- The rotated query heads. -/
theorem s_v93 (x0 : Vec Ideal S4096x2048 .f32) (x1 : Vec Ideal S4096x128 .f32) (x2 : Vec Ideal S4096x128 .f32) (x9 : Vec Ideal S2048x2048 .f32) (x13 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h13 : ∀ i, x13 (ix1 i) = P.qw i) (t : Fin 4096) (n : Fin 16) (d : Fin 128) :
    val_main_v93 x0 x1 x2 x9 x13 (ix3 t n d) = qr P t n d := by
  pointwise [val_main_v83, val_main_v84, val_main_v85, val_main_v86, val_main_v87, val_main_v88, val_main_v89, val_main_v90, val_main_v91, val_main_v92, val_main_v93]
  simp only [s_v18 P x0 x9 x13 h0 h9 h13, h1, h2]
  exact rope_neg _ _ _ _

/-- The rotated key heads. -/
theorem s_v104 (x0 : Vec Ideal S4096x2048 .f32) (x1 : Vec Ideal S4096x128 .f32) (x2 : Vec Ideal S4096x128 .f32) (x10 : Vec Ideal S2048x1024 .f32) (x14 : Vec Ideal S128 .f32) (h0 : ∀ i j, x0 (ix2 i j) = P.h i j) (h1 : ∀ i j, x1 (ix2 i j) = P.cos i j) (h2 : ∀ i j, x2 (ix2 i j) = P.sin i j) (h10 : ∀ i j, x10 (ix2 i j) = P.wk i j) (h14 : ∀ i, x14 (ix1 i) = P.kw i) (t : Fin 4096) (n : Fin 8) (d : Fin 128) :
    val_main_v104 x0 x1 x2 x10 x14 (ix3 t n d) = kr P t n d := by
  pointwise [val_main_v94, val_main_v95, val_main_v96, val_main_v97, val_main_v98, val_main_v99, val_main_v100, val_main_v101, val_main_v102, val_main_v103, val_main_v104]
  simp only [s_v31 P x0 x10 x14 h0 h10 h14, h1, h2]
  exact rope_neg _ _ _ _

/-- The queries of the gate. -/
theorem s_v48 (x0 : Vec Ideal S4096x2048 .f32) (x3 : Vec Ideal S4096x128 .f32) (x4 : Vec Ideal S4096x128 .f32) (x9 : Vec Ideal S2048x2048 .f32) (x13 : Vec Ideal S128 .f32) (x15 : Vec Ideal S128x128 .f32) (h0 : ∀ i j, x0 (ix2 i j) = P.h i j) (h3 : ∀ i j, x3 (ix2 i j) = P.cg i j) (h4 : ∀ i j, x4 (ix2 i j) = P.sg i j) (h9 : ∀ i j, x9 (ix2 i j) = P.wq i j) (h13 : ∀ i, x13 (ix1 i) = P.qw i) (h15 : ∀ i j, x15 (ix2 i j) = P.gq i j) (b : Fin 2) (s : Fin 2048) (n : Fin 8) (d : Fin 128) :
    val_main_v48 x0 x3 x4 x9 x13 x15 (ix4 b s n d) = qg P (b * 2048 + s) n d := by
  pointwise [val_main_v47, val_main_v48]
  simp only [s_v46 P x0 x3 x4 x9 x13 h0 h3 h4 h9 h13, h15]
  rfl

/-- The normalised key heads by blocks. -/
theorem s_v49 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (r : Fin 64) (n : Fin 8) (d : Fin 128) :
    val_main_v49 x0 x10 x14 (ix5 b s r n d) = kn P ((b * 32 + s) * 64 + r) n d := by
  pointwise [val_main_v49]
  simp only [s_v31 P x0 x10 x14 h0 h10 h14]
  congr 1; omega

/-- The largest normalised keys of the blocks. -/
theorem s_v50 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (n : Fin 8) (d : Fin 128) :
    val_main_v50 x0 x10 x14 (ix4 b s n d) = kmax P (b * 32 + s) n d := by
  pointwise [val_main_cst_7, val_main_v50]
  simp only [s_v49 P x0 x10 x14 h0 h10 h14]
  rw [bot_bits]
  rfl

/-- The mean normalised keys of the blocks. -/
theorem s_v53 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (n : Fin 8) (d : Fin 128) :
    val_main_v53 x0 x10 x14 (ix4 b s n d) = kavg P (b * 32 + s) n d := by
  pointwise [val_main_cst_8, val_main_v51, val_main_cst_9, val_main_v52, val_main_v53]
  simp only [s_v49 P x0 x10 x14 h0 h10 h14]
  rfl

end Cert.RV
-- ==== Proof.Ref2.lean ====
/- The reference's pooled keys of the gate are the specification's. -/
module
public import proofs.«01_k».proof.Proof.Ref1
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- The first half of the largest keys. -/
theorem s_v57 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (n : Fin 8) (c : Fin 64) :
    val_main_v57 x0 x10 x14 (ix4 b s n c) = kmax P (b * 32 + s) n c := by
  pointwise [val_main_v57]
  simp only [s_v50 P x0 x10 x14 h0 h10 h14]

/-- The second half of the largest keys, negated. -/
theorem s_v59 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (n : Fin 8) (c : Fin 64) :
    val_main_v59 x0 x10 x14 (ix4 b s n c) = - kmax P (b * 32 + s) n (64 + c) := by
  rw [val_main_v59_apply, Ideal.hostNegf_def, val_main_v58_apply, show idx_main_v58 (ix4 b s n c) = ix4 b s n (⟨64 + c.val, by omega⟩ : Fin 128) from funext fun a => by
    fin_cases a <;> rfl]
  rw [s_v50 P x0 x10 x14 h0 h10 h14]
  rfl

/-- The largest keys, their halves exchanged. -/
theorem s_v60 (x0 : Vec Ideal S4096x2048 .f32) (x10 : Vec Ideal S2048x1024 .f32) (x14 : Vec Ideal S128 .f32) (h0 : ∀ i j, x0 (ix2 i j) = P.h i j) (h10 : ∀ i j, x10 (ix2 i j) = P.wk i j) (h14 : ∀ i, x14 (ix1 i) = P.kw i) (b : Fin 2) (s : Fin 32) (n : Fin 8) (d : Fin 128) :
    val_main_v60 x0 x10 x14 (ix4 b s n d) = if d.val < 64 then - kmax P (b * 32 + s) n (64 + d) else kmax P (b * 32 + s) n (d - 64) := by
  pointwise [val_main_v60]
  simp only [s_v57 P x0 x10 x14 h0 h10 h14, s_v59 P x0 x10 x14 h0 h10 h14]
  rw [dite_eq_ite]

/-- The cosines of the blocks. -/
theorem s_v55 (x5 : Vec Ideal S32x128 .f32) (h5 : ∀ i j, x5 (ix2 i j) = P.bc i j) (b : Fin 2) (s : Fin 32) (n : Fin 8) (d : Fin 128) :
    val_main_v55 x5 (ix4 b s n d) = P.bc s d := by
  pointwise [val_main_v54, val_main_v55]
  simp only [h5]

/-- The sines of the blocks. -/
theorem s_v62 (x6 : Vec Ideal S32x128 .f32) (h6 : ∀ i j, x6 (ix2 i j) = P.bs i j) (b : Fin 2) (s : Fin 32) (n : Fin 8) (d : Fin 128) :
    val_main_v62 x6 (ix4 b s n d) = P.bs s d := by
  pointwise [val_main_v61, val_main_v62]
  simp only [h6]

/-- The rotated largest keys. -/
theorem s_v64 (x0 : Vec Ideal S4096x2048 .f32) (x5 : Vec Ideal S32x128 .f32) (x6 : Vec Ideal S32x128 .f32) (x10 : Vec Ideal S2048x1024 .f32) (x14 : Vec Ideal S128 .f32) (h0 : ∀ i j, x0 (ix2 i j) = P.h i j) (h5 : ∀ i j, x5 (ix2 i j) = P.bc i j) (h6 : ∀ i j, x6 (ix2 i j) = P.bs i j) (h10 : ∀ i j, x10 (ix2 i j) = P.wk i j) (h14 : ∀ i, x14 (ix1 i) = P.kw i) (b : Fin 2) (s : Fin 32) (n : Fin 8) (d : Fin 128) :
    val_main_v64 x0 x5 x6 x10 x14 (ix4 b s n d) = rope (kmax P (b * 32 + s) n) (P.bc s) (P.bs s) d := by
  rw [val_main_v64_apply, val_main_v56_apply, val_main_v63_apply, s_v50 P x0 x10 x14 h0 h10 h14, s_v60 P x0 x10 x14 h0 h10 h14,
    s_v55 P x5 h5, s_v62 P x6 h6, rope, zero_sub]
  rfl

/-- The rotated mean keys. -/
theorem s_v75 (x0 : Vec Ideal S4096x2048 .f32) (x5 : Vec Ideal S32x128 .f32) (x6 : Vec Ideal S32x128 .f32) (x10 : Vec Ideal S2048x1024 .f32) (x14 : Vec Ideal S128 .f32) (h0 : ∀ i j, x0 (ix2 i j) = P.h i j) (h5 : ∀ i j, x5 (ix2 i j) = P.bc i j) (h6 : ∀ i j, x6 (ix2 i j) = P.bs i j) (h10 : ∀ i j, x10 (ix2 i j) = P.wk i j) (h14 : ∀ i, x14 (ix1 i) = P.kw i) (b : Fin 2) (s : Fin 32) (n : Fin 8) (d : Fin 128) :
    val_main_v75 x0 x5 x6 x10 x14 (ix4 b s n d) = rope (kavg P (b * 32 + s) n) (P.bc s) (P.bs s) d := by
  pointwise [val_main_v65, val_main_v66, val_main_v67, val_main_v68, val_main_v69, val_main_v70, val_main_v71, val_main_v72, val_main_v73, val_main_v74, val_main_v75]
  simp only [s_v53 P x0 x10 x14 h0 h10 h14, h5, h6]
  exact rope_neg _ _ _ _

/-- The pooled keys before projection. -/
theorem s_v76 (x0 : Vec Ideal S4096x2048 .f32) (x5 : Vec Ideal S32x128 .f32) (x6 : Vec Ideal S32x128 .f32) (x10 : Vec Ideal S2048x1024 .f32) (x14 : Vec Ideal S128 .f32) (h0 : ∀ i j, x0 (ix2 i j) = P.h i j) (h5 : ∀ i j, x5 (ix2 i j) = P.bc i j) (h6 : ∀ i j, x6 (ix2 i j) = P.bs i j) (h10 : ∀ i j, x10 (ix2 i j) = P.wk i j) (h14 : ∀ i, x14 (ix1 i) = P.kw i) (b : Fin 2) (s : Fin 32) (n : Fin 8) (d : Fin 256) :
    val_main_v76 x0 x5 x6 x10 x14 (ix4 b s n d) = kcat P (b * 32 + s) n d := by
  pointwise [val_main_v76]
  simp only [s_v64 P x0 x5 x6 x10 x14 h0 h5 h6 h10 h14, s_v75 P x0 x5 x6 x10 x14 h0 h5 h6 h10 h14]
  rw [kcat, show (b.val * 32 + s.val) % 32 = s.val by omega, dite_eq_ite]

/-- The pooled keys of the gate. -/
theorem s_v77 (x0 : Vec Ideal S4096x2048 .f32) (x5 : Vec Ideal S32x128 .f32) (x6 : Vec Ideal S32x128 .f32) (x10 : Vec Ideal S2048x1024 .f32) (x14 : Vec Ideal S128 .f32) (x16 : Vec Ideal S256x128 .f32) (h0 : ∀ i j, x0 (ix2 i j) = P.h i j) (h5 : ∀ i j, x5 (ix2 i j) = P.bc i j) (h6 : ∀ i j, x6 (ix2 i j) = P.bs i j) (h10 : ∀ i j, x10 (ix2 i j) = P.wk i j) (h14 : ∀ i, x14 (ix1 i) = P.kw i) (h16 : ∀ i j, x16 (ix2 i j) = P.gk i j) (b : Fin 2) (s : Fin 32) (n : Fin 8) (d : Fin 128) :
    val_main_v77 x0 x5 x6 x10 x14 x16 (ix4 b s n d) = kg P (b * 32 + s) n d := by
  pointwise [val_main_v77]
  simp only [s_v76 P x0 x5 x6 x10 x14 h0 h5 h6 h10 h14, h16]
  rfl

end Cert.RV
-- ==== Proof.Ref3.lean ====
/- The reference's gate logits and attention scores are the specification's. -/
module
public import proofs.«01_k».proof.Proof.Ref2
public import proofs.«01_k».proof.Proof.Real
public import proofs.«01_k».proof.Proof.Pay1
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- Dividing by the root of 128 is multiplying by the scores' scale. -/
theorem div_root (s : EReal) : Ideal.div s (Ideal.sqrt (Ideal.ofBits .f32 0x43000000#32)) = s * isd := by
  rw [show Ideal.ofBits .f32 0x43000000#32 = ((128 : ℝ) : EReal) from c128_val, Ideal.sqrt_coe, if_neg (by norm_num), Ideal.div_coe (by positivity), isd, one_div]

/-- A choice by a bit that says whether `p` holds. -/
theorem sel_if {α : Type} (p : Prop) [Decidable p] (x y : α) : Scalar.select (if p then 1#1 else 0#1) x y = if p then x else y := by
  split <;> rfl

/-- The mask's constant is the bottom. -/
theorem id_bot : (id (constant S_ FTy.f32 4286578688#32) ix0 : Ideal .f32) = ⊥ := bot_bits

/-- The masked gate logits. -/
theorem s_v82 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (b : Fin 2) (n : Fin 8) (q : Fin 2048) (j : Fin 32) :
    val_main_v82 x0 x3 x4 x5 x6 x7 x9 x10 x13 x14 x15 x16 (ix4 b n q j) = logit P b n q j := by
  pointwise [val_main_v78, val_main_cst_10, val_main_v79, val_main_v80, val_main_v81, val_main_cst_11, val_main_call0_v0, val_main_call0_v1, val_main_call0_v2, val_main_v82]
  simp only [s_v48 P x0 x3 x4 x9 x13 x15 h0 h3 h4 h9 h13 h15, s_v77 P x0 x5 x6 x10 x14 x16 h0 h5 h6 h10 h14 h16, h7]
  simp only [sel_if, div_root, id_bot]
  rfl

/-- The queries by batches. -/
theorem s_v106 (x0 : Vec Ideal S4096x2048 .f32) (x1 : Vec Ideal S4096x128 .f32) (x2 : Vec Ideal S4096x128 .f32) (x9 : Vec Ideal S2048x2048 .f32) (x13 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h13 : ∀ i, x13 (ix1 i) = P.qw i) (b : Fin 2) (n : Fin 16) (q : Fin 2048) (d : Fin 128) :
    val_main_v106 x0 x1 x2 x9 x13 (ix4 b n q d) = qr P (b * 2048 + q) n d := by
  pointwise [val_main_v105, val_main_v106]
  simp only [s_v93 P x0 x1 x2 x9 x13 h0 h1 h2 h9 h13]

/-- The keys, repeated for the heads of a group. -/
theorem s_v110 (x0 : Vec Ideal S4096x2048 .f32) (x1 : Vec Ideal S4096x128 .f32) (x2 : Vec Ideal S4096x128 .f32) (x10 : Vec Ideal S2048x1024 .f32) (x14 : Vec Ideal S128 .f32) (h0 : ∀ i j, x0 (ix2 i j) = P.h i j) (h1 : ∀ i j, x1 (ix2 i j) = P.cos i j) (h2 : ∀ i j, x2 (ix2 i j) = P.sin i j) (h10 : ∀ i j, x10 (ix2 i j) = P.wk i j) (h14 : ∀ i, x14 (ix1 i) = P.kw i) (b : Fin 2) (n : Fin 16) (k : Fin 2048) (d : Fin 128) :
    val_main_v110 x0 x1 x2 x10 x14 (ix4 b n k d) = kr P (b * 2048 + k) (n / 2) d := by
  pointwise [val_main_v107, val_main_v108, val_main_v109, val_main_v110]
  simp only [s_v104 P x0 x1 x2 x10 x14 h0 h1 h2 h10 h14]

/-- The values, repeated for the heads of a group. -/
theorem s_v114 (x0 : Vec Ideal S4096x2048 .f32) (x11 : Vec Ideal S2048x1024 .f32) (h0 : ∀ i j, x0 (ix2 i j) = P.h i j) (h11 : ∀ i j, x11 (ix2 i j) = P.wv i j) (b : Fin 2) (n : Fin 16) (k : Fin 2048) (d : Fin 128) :
    val_main_v114 x0 x11 (ix4 b n k d) = vv P (b * 2048 + k) (n / 2) d := by
  pointwise [val_main_v111, val_main_v112, val_main_v113, val_main_v114]
  simp only [s_v5 P x0 x11 h0 h11]

/-- The scaled scores. -/
theorem s_v118 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) (k : Fin 2048) :
    val_main_v118 x0 x1 x2 x9 x10 x13 x14 (ix4 b n q k) = (∑ d : Fin 128, qr P (b * 2048 + q) n d * kr P (b * 2048 + k) (n / 2) d) * isd := by
  pointwise [val_main_v115, val_main_cst_12, val_main_v116, val_main_v117, val_main_v118]
  simp only [s_v106 P x0 x1 x2 x9 x13 h0 h1 h2 h9 h13, s_v110 P x0 x1 x2 x10 x14 h0 h1 h2 h10 h14]
  exact div_root _

/-- The causal mask. -/
theorem s_v121 (q k : Fin 2048) : val_main_v121 (F := Ideal) (ix4 0 0 q k) = (if k.val ≤ q.val then 1#1 else 0#1 : BitVec 1) := by
  pointwise [val_main_c, val_main_v119, val_main_call1_v0, val_main_call1_c, val_main_call1_v1, val_main_call1_v2, val_main_call1_v3, val_main_call1_v4, val_main_call1_c_0, val_main_call1_v5, val_main_v120, val_main_v121]
  show Scalar.select (IntOp.cmpi CmpIPredicate.sle (BitVec.ofNat 32 k.val) (BitVec.ofNat 32 q.val + 0#32)) 1#1 0#1 = _
  rw [BitVec.add_zero, Cert.KV.le_word k.val q.val (by omega) (by omega), sel_if]

/-- The masked scores. -/
theorem s_v122 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) (k : Fin 2048) :
    val_main_v122 x0 x1 x2 x9 x10 x13 x14 (ix4 b n q k) = score P b n q k := by
  pointwise [val_main_cst_13, val_main_call2_v0, val_main_call2_v1, val_main_call2_v2, val_main_v122]
  simp only [s_v118 P x0 x1 x2 x9 x10 x13 x14 h0 h1 h2 h9 h10 h13 h14, s_v121, id_bot, sel_if]
  rfl

end Cert.RV
-- ==== Proof.Ref4.lean ====
/- The reference's softmax and its attention output are the specification's. -/
module
public import proofs.«01_k».proof.Proof.Ref3
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- The largest of the first `n` entries, as a fold over `Fin n`. -/
theorem mx_fold (S : ℕ → EReal) (n : ℕ) : Finset.fold max (Ideal.ofBits .f32 4286578688#32) (fun k : Fin n => S k) Finset.univ = mx S n := by
  rw [bot_bits]
  have h := mx_add S 0 n
  simp only [zero_add, mx_zero, bot_le, max_eq_right] at h
  exact h.symm

/-- The softmax denominator, as a sum over `Fin n`. -/
theorem dn_fin (S : ℕ → EReal) (n : ℕ) : ∑ k : Fin n, Ideal.exp (S k - mx S n) = dn S n :=
  Fin.sum_univ_eq_sum_range (fun k => Ideal.exp (S k - mx S n)) n

/-- The largest score of a row. -/
theorem s_v123 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) :
    val_main_v123 x0 x1 x2 x9 x10 x13 x14 (ix3 b n q) = mx (score P b n q) 2048 := by
  pointwise [val_main_cst_14, val_main_v123]
  simp only [s_v122 P x0 x1 x2 x9 x10 x13 x14 h0 h1 h2 h9 h10 h13 h14]
  exact mx_fold (score P b n q) 2048

/-- The largest score of a row, not below the bottom. -/
theorem s_v125 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) :
    val_main_v125 x0 x1 x2 x9 x10 x13 x14 (ix3 b n q) = mx (score P b n q) 2048 := by
  rw [val_main_v125_apply, val_main_v124_apply, val_main_cst_15_apply, s_v123 P x0 x1 x2 x9 x10 x13 x14 h0 h1 h2 h9 h10 h13 h14]
  show max (Ideal.ofBits .f32 4286578688#32) _ = _
  rw [bot_bits]
  exact max_eq_right bot_le

/-- The softmax numerators. -/
theorem s_v129 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) (k : Fin 2048) :
    val_main_v129 x0 x1 x2 x9 x10 x13 x14 (ix4 b n q k) = Ideal.exp (score P b n q k - mx (score P b n q) 2048) := by
  pointwise [val_main_v126, val_main_v127, val_main_v128, val_main_v129]
  simp only [s_v122 P x0 x1 x2 x9 x10 x13 x14 h0 h1 h2 h9 h10 h13 h14, s_v125 P x0 x1 x2 x9 x10 x13 x14 h0 h1 h2 h9 h10 h13 h14]

/-- The softmax denominators. -/
theorem s_v130 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) :
    val_main_v130 x0 x1 x2 x9 x10 x13 x14 (ix3 b n q) = dn (score P b n q) 2048 := by
  pointwise [val_main_cst_16, val_main_v130]
  simp only [s_v129 P x0 x1 x2 x9 x10 x13 x14 h0 h1 h2 h9 h10 h13 h14]
  exact dn_fin (score P b n q) 2048

/-- The softmax weights. -/
theorem s_v133 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) (k : Fin 2048) :
    val_main_v133 x0 x1 x2 x9 x10 x13 x14 (ix4 b n q k) = prob P b n q k := by
  pointwise [val_main_v131, val_main_v132, val_main_v133]
  simp only [s_v129 P x0 x1 x2 x9 x10 x13 x14 h0 h1 h2 h9 h10 h13 h14, s_v130 P x0 x1 x2 x9 x10 x13 x14 h0 h1 h2 h9 h10 h13 h14]
  rfl

/-- The attention. -/
theorem s_v134 (x0 : Vec Ideal S4096x2048 .f32) (x1 : Vec Ideal S4096x128 .f32) (x2 : Vec Ideal S4096x128 .f32) (x9 : Vec Ideal S2048x2048 .f32) (x10 : Vec Ideal S2048x1024 .f32) (x11 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h11 : ∀ i j, x11 (ix2 i j) = P.wv i j) (h13 : ∀ i, x13 (ix1 i) = P.qw i) (h14 : ∀ i, x14 (ix1 i) = P.kw i) (b : Fin 2) (n : Fin 16) (q : Fin 2048) (d : Fin 128) :
    val_main_v134 x0 x1 x2 x9 x10 x11 x13 x14 (ix4 b n q d) = attn P b n q d := by
  pointwise [val_main_v134]
  simp only [s_v133 P x0 x1 x2 x9 x10 x13 x14 h0 h1 h2 h9 h10 h13 h14, s_v114 P x0 x11 h0 h11]
  exact Fin.sum_univ_eq_sum_range (fun k => prob P b n q k * vv P (b * 2048 + k) (n / 2) d) 2048

/-- The attention by tokens. -/
theorem s_v136 (x0 : Vec Ideal S4096x2048 .f32) (x1 : Vec Ideal S4096x128 .f32) (x2 : Vec Ideal S4096x128 .f32) (x9 : Vec Ideal S2048x2048 .f32) (x10 : Vec Ideal S2048x1024 .f32) (x11 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h11 : ∀ i j, x11 (ix2 i j) = P.wv i j) (h13 : ∀ i, x13 (ix1 i) = P.qw i) (h14 : ∀ i, x14 (ix1 i) = P.kw i) (t : Fin 4096) (c : Fin 2048) :
    val_main_v136 x0 x1 x2 x9 x10 x11 x13 x14 (ix2 t c) = attn P (t / 2048) (c / 128) (t % 2048) (c % 128) := by
  pointwise [val_main_v135, val_main_v136]
  simp only [s_v134 P x0 x1 x2 x9 x10 x11 x13 x14 h0 h1 h2 h9 h10 h11 h13 h14]

/-- The attention output. -/
theorem s_v137 (x0 : Vec Ideal S4096x2048 .f32) (x1 : Vec Ideal S4096x128 .f32) (x2 : Vec Ideal S4096x128 .f32) (x9 : Vec Ideal S2048x2048 .f32) (x10 : Vec Ideal S2048x1024 .f32) (x11 : Vec Ideal S2048x1024 .f32) (x12 : Vec Ideal S2048x2048 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h11 : ∀ i j, x11 (ix2 i j) = P.wv i j) (h12 : ∀ i j, x12 (ix2 i j) = P.wo i j) (h13 : ∀ i, x13 (ix1 i) = P.qw i) (h14 : ∀ i, x14 (ix1 i) = P.kw i) (t : Fin 4096) (j : Fin 2048) :
    val_main_v137 x0 x1 x2 x9 x10 x11 x12 x13 x14 (ix2 t j) = outp P t j := by
  pointwise [val_main_v137]
  simp only [s_v136 P x0 x1 x2 x9 x10 x11 x13 x14 h0 h1 h2 h9 h10 h11 h13 h14, h12]
  rfl

end Cert.RV
-- ==== Proof.Ref5.lean ====
/- The reference's gate target is the specification's. -/
module
public import proofs.«01_k».proof.Proof.Ref4
public import proofs.«01_k».proof.Proof.Tile2
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- The larger of two entries, as a fold. -/
theorem fold_two (f : ℕ → EReal) : Finset.fold max (Ideal.ofBits .f32 4286578688#32) (fun k : Fin 2 => f k) Finset.univ = max (f 0) (f 1) := by
  rw [bot_bits, show (Finset.univ : Finset (Fin 2)) = {0, 1} from rfl, Finset.fold_insert (by decide), Finset.fold_singleton, max_eq_left (a := f _) bot_le]
  rfl

/-- A block above the diagonal has no weight. -/
theorem m1d_mask (F : Fin' P) (b g q j : ℕ) (hj : ¬ j * 64 ≤ q) : m1d P b g q j = 0 := by
  have h : ∀ n, psum P b n q j = 0 := by
    intro n
    refine Finset.sum_eq_zero fun r _ => ?_
    have hS := Cert.KV.score_top P (qr_real P F) (kr_real P F) b n q
    have h0 := Cert.KV.score_bot P (qr_real P F) (kr_real P F) b n q
    have hz : score P b n q (j * 64 + r) = ⊥ := by rw [score, if_neg (by omega)]
    obtain ⟨d, hd, e⟩ := dn_pos (score P b n q) hS h0 2048 (by decide)
    rw [prob, w_mask (score P b n q) hS h0 2048 2048 _ hz (by decide), e, Ideal.div_coe hd.ne', zero_mul]
  rw [m1d, h, h, max_self]

/-- The weights of the blocks. -/
theorem s_v139 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (n : Fin 16) (q : Fin 2048) (j : Fin 32) :
    val_main_v139 x0 x1 x2 x9 x10 x13 x14 (ix4 b n q j) = psum P b n q j := by
  pointwise [val_main_v138, val_main_cst_17, val_main_v139]
  simp only [s_v133 P x0 x1 x2 x9 x10 x13 x14 h0 h1 h2 h9 h10 h13 h14]
  exact Fin.sum_univ_eq_sum_range (fun r => prob P b n q (j * 64 + r)) 64

/-- The larger weight of the two heads. -/
theorem s_v141 (x0 : Vec Ideal S4096x2048 .f32) (x1 : Vec Ideal S4096x128 .f32) (x2 : Vec Ideal S4096x128 .f32) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (g : Fin 8) (q : Fin 2048) (j : Fin 32) :
    val_main_v141 x0 x1 x2 x9 x10 x13 x14 (ix4 b g q j) = m1d P b g q j := by
  pointwise [val_main_v140, val_main_cst_18, val_main_v141]
  simp only [s_v139 P x0 x1 x2 x9 x10 x13 x14 h0 h1 h2 h9 h10 h13 h14]
  exact fold_two (fun i => psum P b (g * 2 + i) q j)

/-- The weights under the block mask. -/
theorem s_v142 (F : Fin' P) (x0 : Vec Ideal S4096x2048 .f32) (x1 : Vec Ideal S4096x128 .f32) (x2 : Vec Ideal S4096x128 .f32) (x7 : Vec Ideal S2x1x2048x32 .i1) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (g : Fin 8) (q : Fin 2048) (j : Fin 32) :
    val_main_v142 x0 x1 x2 x7 x9 x10 x13 x14 (ix4 b g q j) = m1d P b g q j := by
  pointwise [val_main_cst_19, val_main_call3_v0, val_main_call3_v1, val_main_call3_v2, val_main_v142]
  simp only [s_v141 P x0 x1 x2 x9 x10 x13 x14 h0 h1 h2 h9 h10 h13 h14, h7, sel_if]
  split
  · rfl
  · next h => rw [m1d_mask P F _ _ _ _ h]; exact Ideal.ofBits_zero_f32

/-- The target distribution. -/
theorem s_v148 (F : Fin' P) (x0 : Vec Ideal S4096x2048 .f32) (x1 : Vec Ideal S4096x128 .f32) (x2 : Vec Ideal S4096x128 .f32) (x7 : Vec Ideal S2x1x2048x32 .i1) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (b : Fin 2) (g : Fin 8) (q : Fin 2048) (j : Fin 32) :
    val_main_v148 x0 x1 x2 x7 x9 x10 x13 x14 (ix4 b g q j) = gt P b g q j := by
  pointwise [val_main_cst_20, val_main_v143, val_main_v144, val_main_cst_21, val_main_v145, val_main_v146, val_main_v147, val_main_v148]
  simp only [s_v142 P F x0 x1 x2 x7 x9 x10 x13 x14 h0 h1 h2 h7 h9 h10 h13 h14]
  rfl

end Cert.RV
-- ==== Proof.Ref6.lean ====
/- The reference's divergences are the specification's. -/
module
public import proofs.«01_k».proof.Proof.Ref5
public import Idealize.ShloMosaic.Lib.Pointwise
@[expose] public section
set_option maxRecDepth 16384
noncomputable section
namespace Cert.RV
open Cert.ReferenceIdeal Cert.ReferenceIdeal.Read Idealize.ShloMosaic Idealize.ShloMosaic.TcCoe Cert.Spec Cert.Row
variable (P : In)

/-- The gate logits of the first batch. -/
theorem s_v150 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v150 x0 x3 x4 x5 x6 x7 x9 x10 x13 x14 x15 x16 (ix3 g q j) = logit P 0 g q j := by
  pointwise [val_main_v149, val_main_v150]
  simp only [s_v82 P x0 x3 x4 x5 x6 x7 x9 x10 x13 x14 x15 x16 h0 h3 h4 h5 h6 h7 h9 h10 h13 h14 h15 h16]
  rfl

/-- The largest logits of the first batch. -/
theorem s_call4_v0 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) :
    val_main_call4_v0 x0 x3 x4 x5 x6 x7 x9 x10 x13 x14 x15 x16 (ix2 g q) = (Finset.univ.sup fun k : Fin 32 => logit P 0 g q k) := by
  pointwise [val_main_call4_cst, val_main_call4_v0]
  simp only [s_v150 P x0 x3 x4 x5 x6 x7 x9 x10 x13 x14 x15 x16 h0 h3 h4 h5 h6 h7 h9 h10 h13 h14 h15 h16]
  rw [bot_bits]
  rfl

/-- The largest logits of the first batch, not below the bottom. -/
theorem s_call4_v2 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) :
    val_main_call4_v2 x0 x3 x4 x5 x6 x7 x9 x10 x13 x14 x15 x16 (ix2 g q) = (Finset.univ.sup fun k : Fin 32 => logit P 0 g q k) := by
  rw [val_main_call4_v2_apply, val_main_call4_v1_apply, val_main_call4_cst_0_apply, s_call4_v0 P x0 x3 x4 x5 x6 x7 x9 x10 x13 x14 x15 x16 h0 h3 h4 h5 h6 h7 h9 h10 h13 h14 h15 h16]
  show max (Ideal.ofBits .f32 4286578688#32) _ = _
  rw [bot_bits]
  exact max_eq_right bot_le

/-- The log-probabilities of the first batch. -/
theorem s_v151 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v151 x0 x3 x4 x5 x6 x7 x9 x10 x13 x14 x15 x16 (ix3 g q j) = lsm (logit P 0 g q) j := by
  pointwise [val_main_call4_v3, val_main_call4_v4, val_main_call4_v5, val_main_call4_v6, val_main_call4_cst_1, val_main_call4_v7, val_main_call4_v8, val_main_call4_v9, val_main_call4_v10, val_main_v151]
  simp only [s_v150 P x0 x3 x4 x5 x6 x7 x9 x10 x13 x14 x15 x16 h0 h3 h4 h5 h6 h7 h9 h10 h13 h14 h15 h16, s_call4_v2 P x0 x3 x4 x5 x6 x7 x9 x10 x13 x14 x15 x16 h0 h3 h4 h5 h6 h7 h9 h10 h13 h14 h15 h16]
  rfl

/-- The targets of the first batch. -/
theorem s_v153 (F : Fin' P) (x0 : Vec Ideal S4096x2048 .f32) (x1 : Vec Ideal S4096x128 .f32) (x2 : Vec Ideal S4096x128 .f32) (x7 : Vec Ideal S2x1x2048x32 .i1) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (g : Fin 8) (q : Fin 2048) (j : Fin 32) :
    val_main_v153 x0 x1 x2 x7 x9 x10 x13 x14 (ix3 g q j) = gt P 0 g q j := by
  pointwise [val_main_v152, val_main_v153]
  simp only [s_v148 P F x0 x1 x2 x7 x9 x10 x13 x14 h0 h1 h2 h7 h9 h10 h13 h14]
  rfl

/-- The divergence terms of the first batch. -/
theorem s_v162 (F : Fin' P) (x0 : Vec Ideal S4096x2048 .f32) (x1 : Vec Ideal S4096x128 .f32) (x2 : Vec Ideal S4096x128 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h1 : ∀ i j, x1 (ix2 i j) = P.cos i j) (h2 : ∀ i j, x2 (ix2 i j) = P.sin i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v162 x0 x1 x2 x3 x4 x5 x6 x7 x9 x10 x13 x14 x15 x16 (ix3 g q j) = kl P 0 g q j := by
  pointwise [val_main_cst_22, val_main_v154, val_main_v155, val_main_cst_23, val_main_call5_v0, val_main_call5_v1, val_main_v156, val_main_cst_24, val_main_v157, val_main_v158, val_main_v159, val_main_v160, val_main_v161, val_main_cst_25, val_main_call6_v0, val_main_call6_v1, val_main_v162]
  simp only [s_v151 P x0 x3 x4 x5 x6 x7 x9 x10 x13 x14 x15 x16 h0 h3 h4 h5 h6 h7 h9 h10 h13 h14 h15 h16, s_v153 P F x0 x1 x2 x7 x9 x10 x13 x14 h0 h1 h2 h7 h9 h10 h13 h14]
  show (if 0 < _ then _ * (Ideal.log (if 0 < _ then _ else Ideal.ofBits .f32 1065353216#32) - _) else Ideal.ofBits .f32 0#32) = _
  rw [Ideal.ofBits_one_f32, Ideal.ofBits_zero_f32]
  rfl

/-- The gate logits of the second batch. -/
theorem s_v167 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v167 x0 x3 x4 x5 x6 x7 x9 x10 x13 x14 x15 x16 (ix3 g q j) = logit P 1 g q j := by
  pointwise [val_main_v166, val_main_v167]
  simp only [s_v82 P x0 x3 x4 x5 x6 x7 x9 x10 x13 x14 x15 x16 h0 h3 h4 h5 h6 h7 h9 h10 h13 h14 h15 h16]
  rfl

/-- The largest logits of the second batch. -/
theorem s_call7_v0 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) :
    val_main_call7_v0 x0 x3 x4 x5 x6 x7 x9 x10 x13 x14 x15 x16 (ix2 g q) = (Finset.univ.sup fun k : Fin 32 => logit P 1 g q k) := by
  pointwise [val_main_call7_cst, val_main_call7_v0]
  simp only [s_v167 P x0 x3 x4 x5 x6 x7 x9 x10 x13 x14 x15 x16 h0 h3 h4 h5 h6 h7 h9 h10 h13 h14 h15 h16]
  rw [bot_bits]
  rfl

/-- The largest logits of the second batch, not below the bottom. -/
theorem s_call7_v2 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) :
    val_main_call7_v2 x0 x3 x4 x5 x6 x7 x9 x10 x13 x14 x15 x16 (ix2 g q) = (Finset.univ.sup fun k : Fin 32 => logit P 1 g q k) := by
  rw [val_main_call7_v2_apply, val_main_call7_v1_apply, val_main_call7_cst_0_apply, s_call7_v0 P x0 x3 x4 x5 x6 x7 x9 x10 x13 x14 x15 x16 h0 h3 h4 h5 h6 h7 h9 h10 h13 h14 h15 h16]
  show max (Ideal.ofBits .f32 4286578688#32) _ = _
  rw [bot_bits]
  exact max_eq_right bot_le

/-- The log-probabilities of the second batch. -/
theorem s_v168 (x0 : Vec Ideal S4096x2048 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v168 x0 x3 x4 x5 x6 x7 x9 x10 x13 x14 x15 x16 (ix3 g q j) = lsm (logit P 1 g q) j := by
  pointwise [val_main_call7_v3, val_main_call7_v4, val_main_call7_v5, val_main_call7_v6, val_main_call7_cst_1, val_main_call7_v7, val_main_call7_v8, val_main_call7_v9, val_main_call7_v10, val_main_v168]
  simp only [s_v167 P x0 x3 x4 x5 x6 x7 x9 x10 x13 x14 x15 x16 h0 h3 h4 h5 h6 h7 h9 h10 h13 h14 h15 h16, s_call7_v2 P x0 x3 x4 x5 x6 x7 x9 x10 x13 x14 x15 x16 h0 h3 h4 h5 h6 h7 h9 h10 h13 h14 h15 h16]
  rfl

/-- The targets of the second batch. -/
theorem s_v170 (F : Fin' P) (x0 : Vec Ideal S4096x2048 .f32) (x1 : Vec Ideal S4096x128 .f32) (x2 : Vec Ideal S4096x128 .f32) (x7 : Vec Ideal S2x1x2048x32 .i1) (x9 : Vec Ideal S2048x2048 .f32) (x10 : Vec Ideal S2048x1024 .f32) (x13 : Vec Ideal S128 .f32) (x14 : Vec Ideal S128 .f32) (h0 : ∀ i j, x0 (ix2 i j) = P.h i j) (h1 : ∀ i j, x1 (ix2 i j) = P.cos i j) (h2 : ∀ i j, x2 (ix2 i j) = P.sin i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (g : Fin 8) (q : Fin 2048) (j : Fin 32) :
    val_main_v170 x0 x1 x2 x7 x9 x10 x13 x14 (ix3 g q j) = gt P 1 g q j := by
  pointwise [val_main_v169, val_main_v170]
  simp only [s_v148 P F x0 x1 x2 x7 x9 x10 x13 x14 h0 h1 h2 h7 h9 h10 h13 h14]
  rfl

/-- The divergence terms of the second batch. -/
theorem s_v179 (F : Fin' P) (x0 : Vec Ideal S4096x2048 .f32) (x1 : Vec Ideal S4096x128 .f32) (x2 : Vec Ideal S4096x128 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h1 : ∀ i j, x1 (ix2 i j) = P.cos i j) (h2 : ∀ i j, x2 (ix2 i j) = P.sin i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j) (g : Fin 8) (q : Fin 2048) (j : Fin 32) :
    val_main_v179 x0 x1 x2 x3 x4 x5 x6 x7 x9 x10 x13 x14 x15 x16 (ix3 g q j) = kl P 1 g q j := by
  pointwise [val_main_cst_29, val_main_v171, val_main_v172, val_main_cst_30, val_main_call8_v0, val_main_call8_v1, val_main_v173, val_main_cst_31, val_main_v174, val_main_v175, val_main_v176, val_main_v177, val_main_v178, val_main_cst_32, val_main_call9_v0, val_main_call9_v1, val_main_v179]
  simp only [s_v168 P x0 x3 x4 x5 x6 x7 x9 x10 x13 x14 x15 x16 h0 h3 h4 h5 h6 h7 h9 h10 h13 h14 h15 h16, s_v170 P F x0 x1 x2 x7 x9 x10 x13 x14 h0 h1 h2 h7 h9 h10 h13 h14]
  show (if 0 < _ then _ * (Ideal.log (if 0 < _ then _ else Ideal.ofBits .f32 1065353216#32) - _) else Ideal.ofBits .f32 0#32) = _
  rw [Ideal.ofBits_one_f32, Ideal.ofBits_zero_f32]
  rfl

/-- The sum over the first batch. -/
theorem s_v163 (F : Fin' P) (x0 : Vec Ideal S4096x2048 .f32) (x1 : Vec Ideal S4096x128 .f32) (x2 : Vec Ideal S4096x128 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h1 : ∀ i j, x1 (ix2 i j) = P.cos i j) (h2 : ∀ i j, x2 (ix2 i j) = P.sin i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j)  :
    val_main_v163 x0 x1 x2 x3 x4 x5 x6 x7 x9 x10 x13 x14 x15 x16 (ix0 ) = ∑ g : Fin 8, ∑ q : Fin 2048, ∑ j : Fin 32, kl P 0 g q j := by
  pointwise [val_main_cst_26, val_main_v163]
  simp only [s_v162 P F x0 x1 x2 x3 x4 x5 x6 x7 x9 x10 x13 x14 x15 x16 h0 h1 h2 h3 h4 h5 h6 h7 h9 h10 h13 h14 h15 h16]

/-- The sum over the second batch. -/
theorem s_v180 (F : Fin' P) (x0 : Vec Ideal S4096x2048 .f32) (x1 : Vec Ideal S4096x128 .f32) (x2 : Vec Ideal S4096x128 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h1 : ∀ i j, x1 (ix2 i j) = P.cos i j) (h2 : ∀ i j, x2 (ix2 i j) = P.sin i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j)  :
    val_main_v180 x0 x1 x2 x3 x4 x5 x6 x7 x9 x10 x13 x14 x15 x16 (ix0 ) = ∑ g : Fin 8, ∑ q : Fin 2048, ∑ j : Fin 32, kl P 1 g q j := by
  pointwise [val_main_cst_33, val_main_v180]
  simp only [s_v179 P F x0 x1 x2 x3 x4 x5 x6 x7 x9 x10 x13 x14 x15 x16 h0 h1 h2 h3 h4 h5 h6 h7 h9 h10 h13 h14 h15 h16]

/-- The mean of the two batches. -/
theorem s_v183 (F : Fin' P) (x0 : Vec Ideal S4096x2048 .f32) (x1 : Vec Ideal S4096x128 .f32) (x2 : Vec Ideal S4096x128 .f32) (x3 : Vec Ideal S4096x128 .f32) (x4 : Vec Ideal S4096x128 .f32) (x5 : Vec Ideal S32x128 .f32) (x6 : Vec Ideal S32x128 .f32) (x7 : Vec Ideal S2x1x2048x32 .i1) (x9 : Vec Ideal S2048x2048 .f32) (x10 : Vec Ideal S2048x1024 .f32) (x13 : Vec Ideal S128 .f32) (x14 : Vec Ideal S128 .f32) (x15 : Vec Ideal S128x128 .f32) (x16 : Vec Ideal S256x128 .f32) (h0 : ∀ i j, x0 (ix2 i j) = P.h i j) (h1 : ∀ i j, x1 (ix2 i j) = P.cos i j) (h2 : ∀ i j, x2 (ix2 i j) = P.sin i j) (h3 : ∀ i j, x3 (ix2 i j) = P.cg i j) (h4 : ∀ i j, x4 (ix2 i j) = P.sg i j) (h5 : ∀ i j, x5 (ix2 i j) = P.bc i j) (h6 : ∀ i j, x6 (ix2 i j) = P.bs i j) (h7 : ∀ b z q j, x7 (ix4 b z q j) = if j.val * 64 ≤ q.val then 1#1 else 0#1) (h9 : ∀ i j, x9 (ix2 i j) = P.wq i j) (h10 : ∀ i j, x10 (ix2 i j) = P.wk i j) (h13 : ∀ i, x13 (ix1 i) = P.qw i) (h14 : ∀ i, x14 (ix1 i) = P.kw i) (h15 : ∀ i j, x15 (ix2 i j) = P.gq i j) (h16 : ∀ i j, x16 (ix2 i j) = P.gk i j)  :
    val_main_v183 x0 x1 x2 x3 x4 x5 x6 x7 x9 x10 x13 x14 x15 x16 (ix0 ) = Ideal.div (Ideal.div (∑ g : Fin 8, ∑ q : Fin 2048, ∑ j : Fin 32, kl P 0 g q j) (Ideal.ofBits .f32 0x49000000#32) + Ideal.div (∑ g : Fin 8, ∑ q : Fin 2048, ∑ j : Fin 32, kl P 1 g q j) (Ideal.ofBits .f32 0x49000000#32)) (Ideal.ofBits .f32 0x40000000#32) := by
  pointwise [val_main_cst_27, val_main_v164, val_main_cst_28, val_main_v165, val_main_cst_34, val_main_v181, val_main_v182, val_main_cst_35, val_main_v183]
  simp only [s_v163 P F x0 x1 x2 x3 x4 x5 x6 x7 x9 x10 x13 x14 x15 x16 h0 h1 h2 h3 h4 h5 h6 h7 h9 h10 h13 h14 h15 h16, s_v180 P F x0 x1 x2 x3 x4 x5 x6 x7 x9 x10 x13 x14 x15 x16 h0 h1 h2 h3 h4 h5 h6 h7 h9 h10 h13 h14 h15 h16]

end Cert.RV
-- ==== Proof.Loss.lean ====
/- The mean of the reference's two sums is the kernel's sum of tiles. -/
module
public import proofs.«01_k».proof.Proof.Inp
@[expose] public section
noncomputable section
namespace Cert.RV
open Idealize.ShloMosaic Cert.Spec Cert.Row

/-- A sum of `m * n` entries, by `m` runs of `n`. -/
theorem sum_runs (f : ℕ → EReal) (m n N : ℕ) (hN : N = m * n) : ∑ q : Fin N, f q = ∑ a : Fin m, ∑ r : Fin n, f (a * n + r) := by
  subst hN
  rw [Fin.sum_univ_eq_sum_range f (m * n), Fin.sum_univ_eq_sum_range (fun a => ∑ r : Fin n, f (a * n + r)) m]
  induction m with
  | zero => simp
  | succ m ih =>
    rw [Finset.sum_range_succ, ← ih, Nat.add_mul, Nat.one_mul, Finset.sum_range_add,
      Fin.sum_univ_eq_sum_range (fun r => f (m * n + r)) n]

/-- All tiles' parts of the loss, by batches, groups and queries. -/
theorem tiles_e (P : In) : ∑ t : Fin 64, klTile P (t / 32) (t / 4 % 8) (t % 4)
    = ∑ b : Fin 2, ∑ g : Fin 8, ∑ q : Fin 2048, ∑ j : Fin 32, kl P b g q j := by
  rw [sum_runs (fun t => klTile P (t / 32) (t / 4 % 8) (t % 4)) 2 32 64 rfl]
  refine Finset.sum_congr rfl fun b _ => ?_
  rw [sum_runs (fun r => klTile P ((b * 32 + r) / 32) ((b * 32 + r) / 4 % 8) ((b * 32 + r) % 4)) 8 4 32 rfl]
  refine Finset.sum_congr rfl fun g _ => ?_
  rw [sum_runs (fun q => ∑ j : Fin 32, kl P b g q j) 4 512 2048 rfl]
  refine Finset.sum_congr rfl fun a _ => ?_
  rw [show (b.val * 32 + (g.val * 4 + a.val)) / 32 = b.val by omega, show (b.val * 32 + (g.val * 4 + a.val)) / 4 % 8 = g.val by omega,
    show (b.val * 32 + (g.val * 4 + a.val)) % 4 = a.val by omega]
  rfl

/-- The value of the float 524288. -/
theorem count_val : Ideal.ofBits .f32 0x49000000#32 = ((524288 : ℝ) : EReal) := by
  have e1 : ¬ BitVec.extractLsb' 31 1 0x49000000#32 = 1#1 := by decide
  have e2 : 0x49000000 >>> 23 % 256 = 146 := by decide
  simp [Ideal.ofBits, Ideal.ieee, e1, e2]
  norm_num
  rw [← EReal.coe_mul]; norm_num
/-- The value of the float 2. -/
theorem two_val : Ideal.ofBits .f32 0x40000000#32 = ((2 : ℝ) : EReal) := by
  have e1 : ¬ BitVec.extractLsb' 31 1 0x40000000#32 = 1#1 := by decide
  have e2 : 0x40000000 >>> 23 % 256 = 128 := by decide
  simp [Ideal.ofBits, Ideal.ieee, e1, e2]
  norm_num
  rw [← EReal.coe_mul]; norm_num
/-- The value of the float 2⁻²⁰. -/
theorem unit_val : Ideal.ofBits .f32 0x35800000#32 = ((1 / 1048576 : ℝ) : EReal) := by
  have e1 : ¬ BitVec.extractLsb' 31 1 0x35800000#32 = 1#1 := by decide
  have e2 : 0x35800000 >>> 23 % 256 = 107 := by decide
  simp [Ideal.ofBits, Ideal.ieee, e1, e2]
  norm_num
  rw [← EReal.coe_mul]; norm_num

/-- The mean of the two batches' means is the scaled sum of all tiles. -/
theorem loss_e (P : In) :
    Ideal.div (Ideal.div (∑ g : Fin 8, ∑ q : Fin 2048, ∑ j : Fin 32, kl P 0 g q j) (Ideal.ofBits .f32 0x49000000#32)
      + Ideal.div (∑ g : Fin 8, ∑ q : Fin 2048, ∑ j : Fin 32, kl P 1 g q j) (Ideal.ofBits .f32 0x49000000#32)) (Ideal.ofBits .f32 0x40000000#32)
    = Cert.KV.lossP P := by
  rw [Cert.KV.lossP, tiles_e, count_val, two_val, unit_val, Ideal.div_coe (by norm_num), Ideal.div_coe (by norm_num), Ideal.div_coe (by norm_num)]
  have h := sum_scale Finset.univ (fun b : Fin 2 => ∑ g : Fin 8, ∑ q : Fin 2048, ∑ j : Fin 32, kl P b g q j) (c := 1 / 524288) (by norm_num)
  have h2 : ((1 / 1048576 : ℝ) : EReal) = ((1 / 524288 : ℝ) : EReal) * ((1 / 2 : ℝ) : EReal) := by
    rw [← EReal.coe_mul]; norm_num
  rw [h2, ← mul_assoc, h, Fin.sum_univ_two]
  rfl
end Cert.RV
-- ==== Proof.PreF.lean ====
/- What the precondition says of the arrays. -/
module
public import proofs.«01_k».proof.Proof.Inp
public import proofs.«01_k».proof.Proof.Real
public import proofs.«01_k».proof.Proof.Pay1
public import proofs.«01_k».proof.Pre_finite_and_causal
public import proofs.«01_k».proof.Proof.Gen.Pre_finite_and_causal
@[expose] public section
noncomputable section
namespace Cert.PreF
open Idealize.ShloMosaic Cert.Spec Cert.Row Cert.Pre_finite_and_causal

/-- The float of infinity is the top. -/
theorem top_bits : Ideal.ofBits .f32 0x7F800000#32 = ⊤ := by
  have e1 : ¬ BitVec.extractLsb' 31 1 0x7F800000#32 = 1#1 := by decide
  have e2 : 0x7F800000 >>> 23 % 256 = 255 := by decide
  simp [Ideal.ofBits, Ideal.ieee, e1, e2]

/-- An entry below infinity in size is real. -/
theorem real_of {s : Shape} (x : FVec Ideal s .f32) (y : FVec Ideal s .f32) (hy : ∀ i, y i = Ideal.ofBits .f32 0x7F800000#32)
    (h : cmpf .olt (Host.absf x) y = fun _ => 1#1) (i : s.Idx) : IsR (x i) := by
  have hi := congrFun h i
  have hi' : Ideal.cmp .olt (max (x i) (-(x i) : EReal)) (y i) = 1#1 := hi
  rw [hy, top_bits] at hi'
  have hl : max (x i) (-(x i) : EReal) < ⊤ := by
    by_contra hn
    simp [Ideal.cmp, hn] at hi'
  refine isR_of (fun he => ?_) (fun he => ?_) <;> rw [he] at hl <;> simp at hl

/-- Outside its bounds a matrix reads zero, so real entries suffice. -/
theorem nat2_real {a b : ℕ} (f : Fin a → Fin b → EReal) (h : ∀ i j, IsR (f i j)) (i j : ℕ) : IsR (Cert.KV.nat2 f i j) := by
  unfold Cert.KV.nat2; split
  · exact h _ _
  · exact IsR.zero
/-- Outside its bounds a vector reads zero, so real entries suffice. -/
theorem nat1_real {a : ℕ} (f : Fin a → EReal) (h : ∀ i, IsR (f i)) (i : ℕ) : IsR (Cert.KV.nat1 f i) := by
  unfold Cert.KV.nat1; split
  · exact h _
  · exact IsR.zero

/-- Two bits whose comparison holds are equal. -/
theorem bit_eq {a b : BitVec 1} (h : IntOp.cmpi .eq a b = 1#1) : a = b := by
  revert h; revert a b; decide

variable (x0 : Vec Ideal S4096x2048 .f32) (x1 x2 x3 x4 : Vec Ideal S4096x128 .f32) (x5 x6 : Vec Ideal S32x128 .f32) (x7 : Vec Ideal S2x1x2048x32 .i1)
  (x8 : Vec Ideal S3 .i32) (x9 : Vec Ideal S2048x2048 .f32) (x10 x11 : Vec Ideal S2048x1024 .f32) (x12 : Vec Ideal S2048x2048 .f32)
  (x13 x14 : Vec Ideal S128 .f32) (x15 : Vec Ideal S128x128 .f32) (x16 : Vec Ideal S256x128 .f32)

/-- The precondition of a tuple of arrays: its five arrays of bits are all ones. -/
def Holds : Prop :=
  (fn (F := Ideal) x0 x1 x2 x3 x4 x5 x6 x7 x8 x9 x10 x11 x12 x13 x14 x15 x16).1 = (fun _ => 1#1)
  ∧ (fn (F := Ideal) x0 x1 x2 x3 x4 x5 x6 x7 x8 x9 x10 x11 x12 x13 x14 x15 x16).2.1 = (fun _ => 1#1)
  ∧ (fn (F := Ideal) x0 x1 x2 x3 x4 x5 x6 x7 x8 x9 x10 x11 x12 x13 x14 x15 x16).2.2.1 = (fun _ => 1#1)
  ∧ (fn (F := Ideal) x0 x1 x2 x3 x4 x5 x6 x7 x8 x9 x10 x11 x12 x13 x14 x15 x16).2.2.2.1 = (fun _ => 1#1)
  ∧ (fn (F := Ideal) x0 x1 x2 x3 x4 x5 x6 x7 x8 x9 x10 x11 x12 x13 x14 x15 x16).2.2.2.2 = (fun _ => 1#1)

/-- Under the precondition the rotations and the norms' weights are real. -/
theorem fin_of (h : Holds x0 x1 x2 x3 x4 x5 x6 x7 x8 x9 x10 x11 x12 x13 x14 x15 x16) :
    Fin' (Cert.KV.inP x0 x1 x2 x3 x4 x5 x6 x9 x10 x11 x12 x13 x14 x15 x16) := by
  obtain ⟨h1, h2, h13, h14, -⟩ := h
  refine ⟨?_, ?_, ?_, ?_⟩
  · exact nat2_real _ fun i j => real_of _ _ (fun _ => rfl) h1 _
  · exact nat2_real _ fun i j => real_of _ _ (fun _ => rfl) h2 _
  · exact nat1_real _ fun i => real_of _ _ (fun _ => rfl) h13 _
  · exact nat1_real _ fun i => real_of _ _ (fun _ => rfl) h14 _

/-- Under the precondition the block mask is the causal one. -/
theorem mask_of (h : Holds x0 x1 x2 x3 x4 x5 x6 x7 x8 x9 x10 x11 x12 x13 x14 x15 x16) (b : Fin 2) (z : Fin 1) (q : Fin 2048) (j : Fin 32) :
    x7 (ix4 b z q j) = if j.val * 64 ≤ q.val then 1#1 else 0#1 := by
  obtain ⟨-, -, -, -, h7⟩ := h
  have e := bit_eq (congrFun h7 (ix4 b z q j))
  rw [e]
  rw [← Cert.KV.le_word (j.val * 64) q.val (by omega) (by omega), BitVec.ofNat_mul]
  rfl
end Cert.PreF
-- ==== Proof.RRun.lean ====
/- The reference's two results are the specification's, and its run. -/
module
public import proofs.«01_k».proof.Proof.Ref6
public import proofs.«01_k».proof.Proof.Loss
public import proofs.«01_k».proof.Proof.PreF
public import proofs.«01_k».proof.Proof.Gen.ReferenceIdeal.Run
public import Idealize.ShloMosaic.Lib.Claim
@[expose] public section
noncomputable section
namespace Cert.RV
open Cert.ReferenceIdeal Cert.ReferenceIdeal.Read Idealize.ShloMosaic.StableHlo Idealize.ShloMosaic Idealize.ShloMosaic.TcCoe Cert.Spec Cert.Row Cert.KV Idealize.SL.Sem

section
variable (x0 : Vec Ideal S4096x2048 .f32) (x1 x2 x3 x4 : Vec Ideal S4096x128 .f32) (x5 x6 : Vec Ideal S32x128 .f32) (x7 : Vec Ideal S2x1x2048x32 .i1)
  (x8 : Vec Ideal S3 .i32) (x9 : Vec Ideal S2048x2048 .f32) (x10 x11 : Vec Ideal S2048x1024 .f32) (x12 : Vec Ideal S2048x2048 .f32)
  (x13 x14 : Vec Ideal S128 .f32) (x15 : Vec Ideal S128x128 .f32) (x16 : Vec Ideal S256x128 .f32)

/-- The reference's first result is the specification's output. -/
theorem out_e : val_main_v137 x0 x1 x2 x9 x10 x11 x12 x13 x14 = (fun i => outp (inP x0 x1 x2 x3 x4 x5 x6 x9 x10 x11 x12 x13 x14 x15 x16) (i 0).val (i 1).val : Vec Ideal S4096x2048 .f32) := by
  funext i
  refine (congrArg _ (ix2_eta i).symm).trans ?_
  exact s_v137 (inP x0 x1 x2 x3 x4 x5 x6 x9 x10 x11 x12 x13 x14 x15 x16) x0 x1 x2 x9 x10 x11 x12 x13 x14 (fun i j => (nat2_e (fun i j => x0 (ix2 i j)) i j).symm) (fun i j => (nat2_e (fun i j => x1 (ix2 i j)) i j).symm) (fun i j => (nat2_e (fun i j => x2 (ix2 i j)) i j).symm) (fun i j => (nat2_e (fun i j => x9 (ix2 i j)) i j).symm) (fun i j => (nat2_e (fun i j => x10 (ix2 i j)) i j).symm) (fun i j => (nat2_e (fun i j => x11 (ix2 i j)) i j).symm) (fun i j => (nat2_e (fun i j => x12 (ix2 i j)) i j).symm) (fun i => (nat1_e (fun i => x13 (ix1 i)) i).symm) (fun i => (nat1_e (fun i => x14 (ix1 i)) i).symm) (i 0) (i 1)

/-- Under the precondition the reference's second result is the specification's loss. -/
theorem gate_e (h : Cert.PreF.Holds x0 x1 x2 x3 x4 x5 x6 x7 x8 x9 x10 x11 x12 x13 x14 x15 x16) :
    val_main_v183 x0 x1 x2 x3 x4 x5 x6 x7 x9 x10 x13 x14 x15 x16 = (fun _ => lossP (inP x0 x1 x2 x3 x4 x5 x6 x9 x10 x11 x12 x13 x14 x15 x16) : Vec Ideal S_ .f32) := by
  funext i
  rw [Subsingleton.elim i ix0]
  exact (s_v183 (inP x0 x1 x2 x3 x4 x5 x6 x9 x10 x11 x12 x13 x14 x15 x16) (Cert.PreF.fin_of _ _ _ _ _ _ _ _ _ _ _ _ _ _ _ _ _ h) x0 x1 x2 x3 x4 x5 x6 x7 x9 x10 x13 x14 x15 x16 (fun i j => (nat2_e (fun i j => x0 (ix2 i j)) i j).symm) (fun i j => (nat2_e (fun i j => x1 (ix2 i j)) i j).symm) (fun i j => (nat2_e (fun i j => x2 (ix2 i j)) i j).symm) (fun i j => (nat2_e (fun i j => x3 (ix2 i j)) i j).symm) (fun i j => (nat2_e (fun i j => x4 (ix2 i j)) i j).symm) (fun i j => (nat2_e (fun i j => x5 (ix2 i j)) i j).symm) (fun i j => (nat2_e (fun i j => x6 (ix2 i j)) i j).symm) (Cert.PreF.mask_of _ _ _ _ _ _ _ _ _ _ _ _ _ _ _ _ _ h) (fun i j => (nat2_e (fun i j => x9 (ix2 i j)) i j).symm) (fun i j => (nat2_e (fun i j => x10 (ix2 i j)) i j).symm) (fun i => (nat1_e (fun i => x13 (ix1 i)) i).symm) (fun i => (nat1_e (fun i => x14 (ix1 i)) i).symm) (fun i j => (nat2_e (fun i j => x15 (ix2 i j)) i j).symm) (fun i j => (nat2_e (fun i j => x16 (ix2 i j)) i j).symm)).trans (loss_e _)
end

/-- Under the precondition the reference runs, its results are the specification's and its arguments are unchanged. -/
theorem run (m : (ℓ : Loc nD τ sig) → Buf (Elt Ideal) ℓ) (ρ : Dev nD → PrngReg)
    (h : ∀ c : Dev nD, Cert.PreF.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    θ_run defs (onTc (τ := τ) (main (F := Ideal))) ⟨m, fun _ => 0, ρ⟩ (fun r => ∀ c : Dev nD,
      r.2.mem ((c.tc : Thread nD τ).loc main_v137) = (fun i => outp (inP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (i 0).val (i 1).val : Vec Ideal S4096x2048 .f32)
      ∧ r.2.mem ((c.tc : Thread nD τ).loc main_v183) = (fun _ => lossP (inP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r hr c => ⟨(hr c).1.trans ((val_main_v137_eq (launchContents m c)).trans (out_e (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))   (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))),
    (hr c).2.1.trans ((val_main_v183_eq (launchContents m c)).trans (gate_e (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (h c))), (hr c).2.2⟩)
    (Cert.ReferenceIdeal.Value.run (F := Ideal) m ρ)
end Cert.RV
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_causal
public import proofs.«01_k».proof.Proof.KRun
public import proofs.«01_k».proof.Proof.RRun
public import Idealize.ShloMosaic.Adequacy
public import Idealize.ShloMosaic.Init

@[expose] public section

noncomputable section

namespace Cert.Proof

open Idealize.ShloMosaic Idealize.SL.Sem Cert.Spec Cert.KV

/-- The kernel runs from every memory, its arguments end unchanged and every semaphore at zero. -/
theorem frame_k : quiescent_Kernel := fun m ρ _ => Cert.Kernel.Gen.frame m ρ

/-- The idealized kernel runs from every memory, its arguments end unchanged and every semaphore at zero. -/
theorem frame_ki : quiescent_KernelIdeal := fun m ρ _ => Cert.KernelIdeal.Gen.frame m ρ

/-- The reference runs from every memory, its arguments end unchanged and every semaphore at zero. -/
theorem frame_ri : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Each named constant of the kernel is the literal it replaces, read as the real it stands for. -/
theorem preserves_k : preserves_Kernel_KernelIdeal :=
  ⟨IdealRules.named_const.statement Cert.KernelIdeal.κ "mask" .f32 0xF149F2CA#32 ⊥ rfl,
    IdealRules.named_const.statement Cert.KernelIdeal.κ "inv_sqrt_d" .f32 0x3DB504F3#32 _ rfl⟩

/-- Under the precondition the arrays of a launch memory satisfy its conjuncts. -/
theorem holds_of (m : (ℓ : Loc Cert.KernelIdeal.nD Cert.KernelIdeal.τ Cert.KernelIdeal.sig) → Buf (Elt Ideal) ℓ)
    (h : Pre_KernelIdeal_finite_and_causal m) (c : Dev Cert.KernelIdeal.nD) :
    Cert.PreF.Holds (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := h c

/-- Under the precondition the idealized kernel and the reference end with equal results, their arguments unchanged. -/
theorem value_k : algebraic_KernelIdeal_ReferenceIdeal_pre_finite_and_causal := by
  intro m g m' g' hp ha
  refine ⟨fun c => fun i => outp (inM m c) (i 0).val (i 1).val, fun c => fun _ => lossP (inM m c), ?_, ?_⟩
  · exact Cert.KV.run m g fun c => Cert.PreF.fin_of _ _ _ _ _ _ _ _ _ _ _ _ _ _ _ _ _ (holds_of m hp c)
  · refine (θ_run Cert.ReferenceIdeal.defs _ _).mono (fun r hr c => ?_) (Cert.RV.run m' g' fun c => ?_)
    · obtain ⟨a0, a1, a2, a3, a4, a5, a6, -, -, a9, a10, a11, a12, a13, a14, a15, a16⟩ := ha c
      obtain ⟨h1, h2, h3⟩ := hr c
      rw [a0, a1, a2, a3, a4, a5, a6, a9, a10, a11, a12, a13, a14, a15, a16] at h1 h2
      exact ⟨h1, h2, h3⟩
    · obtain ⟨a0, a1, a2, a3, a4, a5, a6, a7, a8, a9, a10, a11, a12, a13, a14, a15, a16⟩ := ha c
      rw [a0, a1, a2, a3, a4, a5, a6, a7, a8, a9, a10, a11, a12, a13, a14, a15, a16]
      exact holds_of m hp c

/-- All the claims. -/
theorem claim : Cert.Claim :=
  ⟨Cert.Kernel.Gen.facts, Cert.KernelIdeal.Gen.facts, Cert.ReferenceIdeal.Gen.facts, Cert.Pre_finite_and_causal.Gen.facts,
    frame_k, frame_ki, fun m ρ _ => frame_ki m ρ trivial, frame_ri, fun m ρ _ => frame_ri m ρ trivial, preserves_k, value_k⟩

end Cert.Proof

end
